-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S64x1024x256 : Shape := ⟨3, ![64, 1024, 256]⟩
abbrev S64x256 : Shape := ⟨2, ![64, 256]⟩
abbrev S256x256 : Shape := ⟨2, ![256, 256]⟩
abbrev S256 : Shape := ⟨1, ![256]⟩
abbrev S_ : Shape := ⟨0, ![]⟩

class Facts : Prop where
  bcast_S_S64x1024x256 : S_.BroadcastsInDim S64x1024x256 (![] : Fin 0 → Fin S64x1024x256.rank)
  reducesTo_S64x1024x256_S_d0_1_2 : S64x1024x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg11 : FVec F S256 .f32) (main_arg12 : FVec F S256 .f32) (main_v29 : IVec S_ 1) (main_v32 : IVec S256x256 1) (main_c_12 : IVec S_ 1) : IVec S_ 1 :=
  let main_v33 : IVec S_ 1 := (fun x v => Host.reduce IntOp.andi x v reducesTo_S256x256_S_d0_1 h_S_) main_v32 main_c_12
  let main_v34 : IVec S_ 1 := andi main_v29 main_v33
  let main_v35 : FVec F S256 .f32 := Host.absf main_arg11
  let main_cst_13 : FVec F S_ .f32 := constant S_ .f32 0x7F800000#32
  let main_v36 : FVec F S256 .f32 := broadcastInDim S256 ![] bcast_S_S256 main_cst_13
  let main_v37 : IVec S256 1 := cmpf .olt main_v35 main_v36
  let main_c_14 : IVec S_ 1 := constantI S_ 1 1#1
  let main_v38 : IVec S_ 1 := (fun x v => Host.reduce IntOp.andi x v reducesTo_S256_S_d0 h_S_) main_v37 main_c_14
  let main_v39 : IVec S_ 1 := andi main_v34 main_v38
  let main_v40 : FVec F S256 .f32 := Host.absf main_arg12
  let main_cst_15 : FVec F S_ .f32 := constant S_ .f32 0x7F800000#32
  let main_v41 : FVec F S256 .f32 := broadcastInDim S256 ![] bcast_S_S256 main_cst_15
  let main_v42 : IVec S256 1 := cmpf .olt main_v40 main_v41
  let main_c_16 : IVec S_ 1 := constantI S_ 1 1#1
  let main_v43 : IVec S_ 1 := (fun x v => Host.reduce IntOp.andi x v reducesTo_S256_S_d0 h_S_) main_v42 main_c_16
  let main_v44 : IVec S_ 1 := andi main_v39 main_v43
  main_v44

def fn_part1 {F : FTy → Type} [FloatOps F] (main_arg5 : FVec F S256x256 .f32) (main_arg6 : FVec F S256 .f32) (main_arg7 : FVec F S256x256 .f32) (main_arg11 : FVec F S256 .f32) (main_arg12 : FVec F S256 .f32) (main_v14 : IVec S_ 1) (main_v15 : FVec F S256 .f32) (main_cst_5 : FVec F S_ .f32) : IVec S_ 1 :=
  let main_v16 : FVec F S256 .f32 := broadcastInDim S256 ![] bcast_S_S256 main_cst_5
  let main_v17 : IVec S256 1 := cmpf .olt main_v15 main_v16
  let main_c_6 : IVec S_ 1 := constantI S_ 1 1#1
  let main_v18 : IVec S_ 1 := (fun x v => Host.reduce IntOp.andi x v reducesTo_S256_S_d0 h_S_) main_v17 main_c_6
  let main_v19 : IVec S_ 1 := andi main_v14 main_v18
  let main_v20 : FVec F S256x256 .f32 := Host.absf main_arg5
  let main_cst_7 : FVec F S_ .f32 := constant S_ .f32 0x7F800000#32
  let main_v21 : FVec F S256x256 .f32 := broadcastInDim S256x256 ![] bcast_S_S256x256 main_cst_7
  let main_v22 : IVec S256x256 1 := cmpf .olt main_v20 main_v21
  let main_c_8 : IVec S_ 1 := constantI S_ 1 1#1
  let main_v23 : IVec S_ 1 := (fun x v => Host.reduce IntOp.andi x v reducesTo_S256x256_S_d0_1 h_S_) main_v22 main_c_8
  let main_v24 : IVec S_ 1 := andi main_v19 main_v23
  let main_v25 : FVec F S256 .f32 := Host.absf main_arg6
  let main_cst_9 : FVec F S_ .f32 := constant S_ .f32 0x7F800000#32
  let main_v26 : FVec F S256 .f32 := broadcastInDim S256 ![] bcast_S_S256 main_cst_9
  let main_v27 : IVec S256 1 := cmpf .olt main_v25 main_v26
  let main_c_10 : IVec S_ 1 := constantI S_ 1 1#1
  let main_v28 : IVec S_ 1 := (fun x v => Host.reduce IntOp.andi x v reducesTo_S256_S_d0 h_S_) main_v27 main_c_10
  let main_v29 : IVec S_ 1 := andi main_v24 main_v28
  let main_v30 : FVec F S256x256 .f32 := Host.absf main_arg7
  let main_cst_11 : FVec F S_ .f32 := constant S_ .f32 0x7F800000#32
  let main_v31 : FVec F S256x256 .f32 := broadcastInDim S256x256 ![] bcast_S_S256x256 main_cst_11
  let main_v32 : IVec S256x256 1 := cmpf .olt main_v30 main_v31
  let main_c_12 : IVec S_ 1 := constantI S_ 1 1#1
  fn_part2 (F := F) main_arg11 main_arg12 main_v29 main_v32 main_c_12

def fn {F : FTy → Type} [FloatOps F] (main_arg0 : FVec F S64x1024x256 .f32) (main_arg1 : FVec F S64x1024x256 .f32) (main_arg2 : FVec F S64x256 .f32) (main_arg3 : FVec F S256x256 .f32) (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256 .f32) (main_arg12 : FVec F S256 .f32) (main_arg13 : FVec F S256 .f32) (main_arg14 : FVec F S256 .f32) : IVec S_ 1 :=
  let main_v0 : FVec F S64x1024x256 .f32 := Host.absf main_arg0
  let main_cst : FVec F S_ .f32 := constant S_ .f32 0x7F800000#32
  let main_v1 : FVec F S64x1024x256 .f32 := broadcastInDim S64x1024x256 ![] bcast_S_S64x1024x256 main_cst
  let main_v2 : IVec S64x1024x256 1 := cmpf .olt main_v0 main_v1
  let main_c : IVec S_ 1 := constantI S_ 1 1#1
  let main_v3 : IVec S_ 1 := (fun x v => Host.reduce IntOp.andi x v reducesTo_S64x1024x256_S_d0_1_2 h_S_) main_v2 main_c
  let main_c_0 : IVec S_ 1 := constantI S_ 1 1#1
  let main_v4 : IVec S_ 1 := andi main_c_0 main_v3
  let main_v5 : FVec F S64x1024x256 .f32 := Host.absf main_arg1
  let main_cst_1 : FVec F S_ .f32 := constant S_ .f32 0x7F800000#32
  let main_v6 : FVec F S64x1024x256 .f32 := broadcastInDim S64x1024x256 ![] bcast_S_S64x1024x256 main_cst_1
  let main_v7 : IVec S64x1024x256 1 := cmpf .olt main_v5 main_v6
  let main_c_2 : IVec S_ 1 := constantI S_ 1 1#1
  let main_v8 : IVec S_ 1 := (fun x v => Host.reduce IntOp.andi x v reducesTo_S64x1024x256_S_d0_1_2 h_S_) main_v7 main_c_2
  let main_v9 : IVec S_ 1 := andi main_v4 main_v8
  let main_v10 : FVec F S256x256 .f32 := Host.absf main_arg3
  let main_cst_3 : FVec F S_ .f32 := constant S_ .f32 0x7F800000#32
  let main_v11 : FVec F S256x256 .f32 := broadcastInDim S256x256 ![] bcast_S_S256x256 main_cst_3
  let main_v12 : IVec S256x256 1 := cmpf .olt main_v10 main_v11
  let main_c_4 : IVec S_ 1 := constantI S_ 1 1#1
  let main_v13 : IVec S_ 1 := (fun x v => Host.reduce IntOp.andi x v reducesTo_S256x256_S_d0_1 h_S_) main_v12 main_c_4
  let main_v14 : IVec S_ 1 := andi main_v9 main_v13
  let main_v15 : FVec F S256 .f32 := Host.absf main_arg4
  let main_cst_5 : FVec F S_ .f32 := constant S_ .f32 0x7F800000#32
  fn_part1 (F := F) main_arg5 main_arg6 main_arg7 main_arg11 main_arg12 main_v14 main_v15 main_cst_5
-- ==== Kernel.lean ====
abbrev S64x1024x256 : Shape := ⟨3, ![64, 1024, 256]⟩
abbrev S64x256 : Shape := ⟨2, ![64, 256]⟩
abbrev S256x256 : Shape := ⟨2, ![256, 256]⟩
abbrev S256 : Shape := ⟨1, ![256]⟩
abbrev S1x256 : Shape := ⟨2, ![1, 256]⟩
abbrev S8x256x256 : Shape := ⟨3, ![8, 256, 256]⟩
abbrev S8x256 : Shape := ⟨2, ![8, 256]⟩
abbrev S8 : Shape := ⟨1, ![8]⟩
abbrev S8x1 : Shape := ⟨2, ![8, 1]⟩

abbrev nBuf : Space → Nat
  | .hbm => 23
  | .vmem => 31
  | .smem => 0
  | _ => 0

abbrev bufTy : (tb : Table) → Fin (tcTables nBuf tb) → BufTy
  | .hbm, ⟨0, _⟩ => ⟨S64x1024x256, .f32⟩
  | .hbm, ⟨1, _⟩ => ⟨S64x1024x256, .f32⟩
  | .hbm, ⟨2, _⟩ => ⟨S64x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S1x256, .f32⟩
  | .hbm, ⟨16, _⟩ => ⟨S1x256, .f32⟩
  | .hbm, ⟨17, _⟩ => ⟨S1x256, .f32⟩
  | .hbm, ⟨18, _⟩ => ⟨S1x256, .f32⟩
  | .hbm, ⟨19, _⟩ => ⟨S1x256, .f32⟩
  | .hbm, ⟨20, _⟩ => ⟨S1x256, .f32⟩
  | .hbm, ⟨21, _⟩ => ⟨S1x256, .f32⟩
  | .hbm, ⟨22, _⟩ => ⟨S64x256, .f32⟩
  | .local _ .vmem, ⟨0, _⟩ => ⟨S8x256x256, .f32⟩
  | .local _ .vmem, ⟨1, _⟩ => ⟨S8x256x256, .f32⟩
  | .local _ .vmem, ⟨2, _⟩ => ⟨S8x256x256, .f32⟩
  | .local _ .vmem, ⟨3, _⟩ => ⟨S8x256x256, .f32⟩
  | .local _ .vmem, ⟨4, _⟩ => ⟨S8x256x256, .f32⟩
  | .local _ .vmem, ⟨5, _⟩ => ⟨S8x256x256, .f32⟩
  | .local _ .vmem, ⟨6, _⟩ => ⟨S8x256x256, .f32⟩
  | .local _ .vmem, ⟨7, _⟩ => ⟨S8x256x256, .f32⟩
  | .local _ .vmem, ⟨8, _⟩ => ⟨S8x256x256, .f32⟩
  | .local _ .vmem, ⟨9, _⟩ => ⟨S8x256x256, .f32⟩
  | .local _ .vmem, ⟨10, _⟩ => ⟨S8x256x256, .f32⟩
  | .local _ .vmem, ⟨11, _⟩ => ⟨S8x256x256, .f32⟩
  | .local _ .vmem, ⟨12, _⟩ => ⟨S8x256x256, .f32⟩
  | .local _ .vmem, ⟨13, _⟩ => ⟨S8x256x256, .f32⟩
  | .local _ .vmem, ⟨14, _⟩ => ⟨S8x256x256, .f32⟩
  | .local _ .vmem, ⟨15, _⟩ => ⟨S8x256x256, .f32⟩
  | .local _ .vmem, ⟨16, _⟩ => ⟨S8x256, .f32⟩
  | .local _ .vmem, ⟨17, _⟩ => ⟨S8x256, .f32⟩
  | .local _ .vmem, ⟨18, _⟩ => ⟨S256x256, .f32⟩
  | .local _ .vmem, ⟨19, _⟩ => ⟨S256x256, .f32⟩
  | .local _ .vmem, ⟨20, _⟩ => ⟨S256x256, .f32⟩
  | .local _ .vmem, ⟨21, _⟩ => ⟨S256x256, .f32⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S1x256, .f32⟩
  | .local _ .vmem, ⟨29, _⟩ => ⟨S8x256, .f32⟩
  | .local _ .vmem, ⟨30, _⟩ => ⟨S8x256, .f32⟩
  | _, _ => ⟨S64x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg20_0 : Ref sig .tc := ⟨.vmem, 29, rfl⟩
abbrev cc0_stg20_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem19_0 : DmaSem sig := 28
abbrev cc0_sem20_0 : DmaSem sig := 29
abbrev cc0_sem20_1 : DmaSem sig := 30

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![arg0.toNat, c1_i32.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![arg0.toNat, c2_i32.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![arg0.toNat, c3_i32.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![arg0.toNat, c1_i32.toNat, c0_i32.toNat]

def cc0_transform_6 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![arg0.toNat, c2_i32.toNat, c0_i32.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![arg0.toNat, c3_i32.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S8x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== ReferenceIdeal.lean ====
abbrev S64x1024x256 : Shape := ⟨3, ![64, 1024, 256]⟩
abbrev S64x256 : Shape := ⟨2, ![64, 256]⟩
abbrev S256x256 : Shape := ⟨2, ![256, 256]⟩
abbrev S256 : Shape := ⟨1, ![256]⟩
abbrev S1024 : Shape := ⟨1, ![1024]⟩
abbrev S_ : Shape := ⟨0, ![]⟩
abbrev S64x2048x256 : Shape := ⟨3, ![64, 2048, 256]⟩
abbrev S1024x1 : Shape := ⟨2, ![1024, 1]⟩
abbrev S64x2048 : Shape := ⟨2, ![64, 2048]⟩
abbrev S64x1024 : Shape := ⟨2, ![64, 1024]⟩
abbrev S64 : Shape := ⟨1, ![64]⟩
abbrev S64x1 : Shape := ⟨2, ![64, 1]⟩
abbrev S1x256 : Shape := ⟨2, ![1, 256]⟩
abbrev S64x1x256 : Shape := ⟨3, ![64, 1, 256]⟩
abbrev S1x1x256 : Shape := ⟨3, ![1, 1, 256]⟩
abbrev S64x256x2048 : Shape := ⟨3, ![64, 256, 2048]⟩
abbrev S64x1x2048 : Shape := ⟨3, ![64, 1, 2048]⟩
abbrev S64x1x1 : Shape := ⟨3, ![64, 1, 1]⟩

abbrev nBuf : Space → Nat
  | .hbm => 208
  | .vmem => 0
  | .smem => 0
  | _ => 0

abbrev hbmTy0_0 (i : Nat) : BufTy := match i % 128 with
  | 0 => ⟨S64x1024x256, .f32⟩
  | 1 => ⟨S64x1024x256, .f32⟩
  | 2 => ⟨S64x256, .f32⟩
  | 3 => ⟨S256x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256x256, .f32⟩
  | 10 => ⟨S256, .f32⟩
  | 11 => ⟨S256, .f32⟩
  | 12 => ⟨S256, .f32⟩
  | 13 => ⟨S256, .f32⟩
  | 14 => ⟨S256, .f32⟩
  | 15 => ⟨S1024, .i32⟩
  | 16 => ⟨S_, .i32⟩
  | 17 => ⟨S_, .i32⟩
  | 18 => ⟨S_, .i32⟩
  | 19 => ⟨S_, .i1⟩
  | 20 => ⟨S_, .i32⟩
  | 21 => ⟨S_, .i32⟩
  | 22 => ⟨S1024, .i32⟩
  | 23 => ⟨S1024, .i32⟩
  | 24 => ⟨S_, .i32⟩
  | 25 => ⟨S1024, .i32⟩
  | 26 => ⟨S1024, .i1⟩
  | 27 => ⟨S_, .i32⟩
  | 28 => ⟨S1024, .i32⟩
  | 29 => ⟨S1024, .i1⟩
  | 30 => ⟨S_, .i32⟩
  | 31 => ⟨S_, .i1⟩
  | 32 => ⟨S1024, .i1⟩
  | 33 => ⟨S1024, .i1⟩
  | 34 => ⟨S1024, .i1⟩
  | 35 => ⟨S1024, .i32⟩
  | 36 => ⟨S1024, .i32⟩
  | 37 => ⟨S1024, .i32⟩
  | 38 => ⟨S_, .f32⟩
  | 39 => ⟨S64x2048x256, .f32⟩
  | 40 => ⟨S_, .i32⟩
  | 41 => ⟨S1024, .i32⟩
  | 42 => ⟨S1024, .i1⟩
  | 43 => ⟨S_, .i32⟩
  | 44 => ⟨S1024, .i32⟩
  | 45 => ⟨S1024, .i32⟩
  | 46 => ⟨S1024, .i32⟩
  | 47 => ⟨S1024x1, .i32⟩
  | 48 => ⟨S64x2048x256, .f32⟩
  | 49 => ⟨S_, .f32⟩
  | 50 => ⟨S64x2048x256, .f32⟩
  | 51 => ⟨S_, .i32⟩
  | 52 => ⟨S1024, .i32⟩
  | 53 => ⟨S1024, .i1⟩
  | 54 => ⟨S_, .i32⟩
  | 55 => ⟨S1024, .i32⟩
  | 56 => ⟨S1024, .i32⟩
  | 57 => ⟨S1024, .i32⟩
  | 58 => ⟨S1024x1, .i32⟩
  | 59 => ⟨S64x2048x256, .f32⟩
  | 60 => ⟨S_, .i1⟩
  | 61 => ⟨S64x2048, .i1⟩
  | 62 => ⟨S_, .i32⟩
  | 63 => ⟨S1024, .i32⟩
  | 64 => ⟨S1024, .i1⟩
  | 65 => ⟨S_, .i32⟩
  | 66 => ⟨S1024, .i32⟩
  | 67 => ⟨S1024, .i32⟩
  | 68 => ⟨S1024, .i32⟩
  | 69 => ⟨S1024x1, .i32⟩
  | 70 => ⟨S_, .i1⟩
  | 71 => ⟨S64x1024, .i1⟩
  | 72 => ⟨S64x2048, .i1⟩
  | 73 => ⟨S_, .f32⟩
  | 74 => ⟨S64, .f32⟩
  | 75 => ⟨S64x1, .f32⟩
  | 76 => ⟨S_, .f32⟩
  | 77 => ⟨S64x1, .f32⟩
  | 78 => ⟨S64x1, .f32⟩
  | 79 => ⟨S_, .i32⟩
  | 80 => ⟨S_, .f32⟩
  | 81 => ⟨S64, .f32⟩
  | 82 => ⟨S64x1, .f32⟩
  | 83 => ⟨S_, .f32⟩
  | 84 => ⟨S64x1, .f32⟩
  | 85 => ⟨S64x1, .f32⟩
  | 86 => ⟨S64x256, .f32⟩
  | 87 => ⟨S64x256, .f32⟩
  | 88 => ⟨S64x256, .f32⟩
  | 89 => ⟨S_, .f32⟩
  | 90 => ⟨S_, .f32⟩
  | 91 => ⟨S_, .f32⟩
  | 92 => ⟨S_, .f32⟩
  | 93 => ⟨S64, .f32⟩
  | 94 => ⟨S64x1, .f32⟩
  | 95 => ⟨S64x1, .f32⟩
  | 96 => ⟨S64x1, .f32⟩
  | 97 => ⟨S_, .f32⟩
  | 98 => ⟨S_, .i1⟩
  | 99 => ⟨S_, .f32⟩
  | 100 => ⟨S_, .f32⟩
  | 101 => ⟨S64x1, .f32⟩
  | 102 => ⟨S64x1, .f32⟩
  | 103 => ⟨S64x256, .f32⟩
  | 104 => ⟨S64x256, .f32⟩
  | 105 => ⟨S_, .f32⟩
  | 106 => ⟨S64x1, .f32⟩
  | 107 => ⟨S64x1, .f32⟩
  | 108 => ⟨S64x1, .f32⟩
  | 109 => ⟨S64x256, .f32⟩
  | 110 => ⟨S64x256, .f32⟩
  | 111 => ⟨S1x256, .f32⟩
  | 112 => ⟨S64x256, .f32⟩
  | 113 => ⟨S64x256, .f32⟩
  | 114 => ⟨S1x256, .f32⟩
  | 115 => ⟨S64x256, .f32⟩
  | 116 => ⟨S64x256, .f32⟩
  | 117 => ⟨S256x256, .f32⟩
  | 118 => ⟨S64x256, .f32⟩
  | 119 => ⟨S1x256, .f32⟩
  | 120 => ⟨S64x256, .f32⟩
  | 121 => ⟨S64x256, .f32⟩
  | 122 => ⟨S64x1x256, .f32⟩
  | 123 => ⟨S256x256, .f32⟩
  | 124 => ⟨S64x2048x256, .f32⟩
  | 125 => ⟨S1x1x256, .f32⟩
  | 126 => ⟨S64x2048x256, .f32⟩
  | 127 => ⟨S64x2048x256, .f32⟩
  | _ => ⟨S64x1024x256, .f32⟩

abbrev hbmTy0_1 (i : Nat) : BufTy := match i % 128 with
  | 0 => ⟨S256x256, .f32⟩
  | 1 => ⟨S64x2048x256, .f32⟩
  | 2 => ⟨S1x1x256, .f32⟩
  | 3 => ⟨S64x2048x256, .f32⟩
  | 4 => ⟨S64x2048x256, .f32⟩
  | 5 => ⟨S64x256x2048, .f32⟩
  | 6 => ⟨S64x1x2048, .f32⟩
  | 7 => ⟨S_, .f32⟩
  | 8 => ⟨S64x1x2048, .f32⟩
  | 9 => ⟨S64x1x2048, .f32⟩
  | 10 => ⟨S64x1x2048, .i1⟩
  | 11 => ⟨S_, .f32⟩
  | 12 => ⟨S_, .f32⟩
  | 13 => ⟨S64x1x2048, .f32⟩
  | 14 => ⟨S64x1x2048, .f32⟩
  | 15 => ⟨S_, .f32⟩
  | 16 => ⟨S64x1, .f32⟩
  | 17 => ⟨S_, .f32⟩
  | 18 => ⟨S64x1, .f32⟩
  | 19 => ⟨S64x1, .f32⟩
  | 20 => ⟨S64x1x1, .f32⟩
  | 21 => ⟨S64x1x2048, .f32⟩
  | 22 => ⟨S64x1x2048, .f32⟩
  | 23 => ⟨S64x1x2048, .f32⟩
  | 24 => ⟨S_, .f32⟩
  | 25 => ⟨S64x1, .f32⟩
  | 26 => ⟨S64x1x1, .f32⟩
  | 27 => ⟨S64x1x2048, .f32⟩
  | 28 => ⟨S64x1x2048, .f32⟩
  | 29 => ⟨S64x1x256, .f32⟩
  | 30 => ⟨S64x256, .f32⟩
  | 31 => ⟨S256x256, .f32⟩
  | 32 => ⟨S64x256, .f32⟩
  | 33 => ⟨S1x256, .f32⟩
  | 34 => ⟨S64x256, .f32⟩
  | 35 => ⟨S64x256, .f32⟩
  | 36 => ⟨S_, .f32⟩
  | 37 => ⟨S64, .f32⟩
  | 38 => ⟨S64x1, .f32⟩
  | 39 => ⟨S_, .f32⟩
  | 40 => ⟨S64x1, .f32⟩
  | 41 => ⟨S64x1, .f32⟩
  | 42 => ⟨S_, .i32⟩
  | 43 => ⟨S_, .f32⟩
  | 44 => ⟨S64, .f32⟩
  | 45 => ⟨S64x1, .f32⟩
  | 46 => ⟨S_, .f32⟩
  | 47 => ⟨S64x1, .f32⟩
  | 48 => ⟨S64x1, .f32⟩
  | 49 => ⟨S64x256, .f32⟩
  | 50 => ⟨S64x256, .f32⟩
  | 51 => ⟨S64x256, .f32⟩
  | 52 => ⟨S_, .f32⟩
  | 53 => ⟨S_, .f32⟩
  | 54 => ⟨S_, .f32⟩
  | 55 => ⟨S_, .f32⟩
  | 56 => ⟨S64, .f32⟩
  | 57 => ⟨S64x1, .f32⟩
  | 58 => ⟨S64x1, .f32⟩
  | 59 => ⟨S64x1, .f32⟩
  | 60 => ⟨S_, .f32⟩
  | 61 => ⟨S_, .i1⟩
  | 62 => ⟨S_, .f32⟩
  | 63 => ⟨S_, .f32⟩
  | 64 => ⟨S64x1, .f32⟩
  | 65 => ⟨S64x1, .f32⟩
  | 66 => ⟨S64x256, .f32⟩
  | 67 => ⟨S64x256, .f32⟩
  | 68 => ⟨S_, .f32⟩
  | 69 => ⟨S64x1, .f32⟩
  | 70 => ⟨S64x1, .f32⟩
  | 71 => ⟨S64x1, .f32⟩
  | 72 => ⟨S64x256, .f32⟩
  | 73 => ⟨S64x256, .f32⟩
  | 74 => ⟨S1x256, .f32⟩
  | 75 => ⟨S64x256, .f32⟩
  | 76 => ⟨S64x256, .f32⟩
  | 77 => ⟨S1x256, .f32⟩
  | 78 => ⟨S64x256, .f32⟩
  | 79 => ⟨S64x256, .f32⟩
  | _ => ⟨S64x1024x256, .f32⟩

abbrev hbmTy (i : Nat) : BufTy := match i / 128 with
  | 0 => hbmTy0_0 i
  | 1 => hbmTy0_1 i
  | _ => ⟨S64x1024x256, .f32⟩

abbrev bufTy : (tb : Table) → Fin (tcTables nBuf tb) → BufTy
  | .hbm, ⟨i, _⟩ => hbmTy i
  | _, _ => ⟨S64x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_c : Ref sig .tc := ⟨.hbm, 16, rfl⟩
abbrev main_call0_v0 : Ref sig .tc := ⟨.hbm, 17, rfl⟩
abbrev main_call0_c : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_c_1 : Ref sig .tc := ⟨.hbm, 24, rfl⟩
abbrev main_call0_v5 : Ref sig .tc := ⟨.hbm, 25, rfl⟩
abbrev main_call0_v6 : Ref sig .tc := ⟨.hbm, 26, rfl⟩
abbrev main_call0_c_2 : Ref sig .tc := ⟨.hbm, 27, rfl⟩
abbrev main_call0_v7 : Ref sig .tc := ⟨.hbm, 28, rfl⟩
abbrev main_call0_v8 : Ref sig .tc := ⟨.hbm, 29, rfl⟩
abbrev main_call0_c_3 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_v1 : Ref sig .tc := ⟨.hbm, 37, rfl⟩
abbrev main_cst : Ref sig .tc := ⟨.hbm, 38, rfl⟩
abbrev main_v2 : Ref sig .tc := ⟨.hbm, 39, rfl⟩
abbrev main_c_0 : Ref sig .tc := ⟨.hbm, 40, rfl⟩
abbrev main_v3 : Ref sig .tc := ⟨.hbm, 41, rfl⟩
abbrev main_v4 : Ref sig .tc := ⟨.hbm, 42, rfl⟩
abbrev main_c_1 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_cst_2 : Ref sig .tc := ⟨.hbm, 49, rfl⟩
abbrev main_v10 : Ref sig .tc := ⟨.hbm, 50, rfl⟩
abbrev main_c_3 : Ref sig .tc := ⟨.hbm, 51, rfl⟩
abbrev main_v11 : Ref sig .tc := ⟨.hbm, 52, rfl⟩
abbrev main_v12 : Ref sig .tc := ⟨.hbm, 53, rfl⟩
abbrev main_c_4 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_c_5 : Ref sig .tc := ⟨.hbm, 60, rfl⟩
abbrev main_v18 : Ref sig .tc := ⟨.hbm, 61, rfl⟩
abbrev main_c_6 : Ref sig .tc := ⟨.hbm, 62, rfl⟩
abbrev main_v19 : Ref sig .tc := ⟨.hbm, 63, rfl⟩
abbrev main_v20 : Ref sig .tc := ⟨.hbm, 64, rfl⟩
abbrev main_c_7 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_c_8 : Ref sig .tc := ⟨.hbm, 70, rfl⟩
abbrev main_v25 : Ref sig .tc := ⟨.hbm, 71, rfl⟩
abbrev main_v26 : Ref sig .tc := ⟨.hbm, 72, rfl⟩
abbrev main_cst_9 : Ref sig .tc := ⟨.hbm, 73, rfl⟩
abbrev main_v27 : Ref sig .tc := ⟨.hbm, 74, rfl⟩
abbrev main_v28 : Ref sig .tc := ⟨.hbm, 75, rfl⟩
abbrev main_cst_10 : Ref sig .tc := ⟨.hbm, 76, rfl⟩
abbrev main_v29 : Ref sig .tc := ⟨.hbm, 77, rfl⟩
abbrev main_v30 : Ref sig .tc := ⟨.hbm, 78, rfl⟩
abbrev main_c_11 : Ref sig .tc := ⟨.hbm, 79, rfl⟩
abbrev main_call1_cst : Ref sig .tc := ⟨.hbm, 80, rfl⟩
abbrev main_call1_v0 : Ref sig .tc := ⟨.hbm, 81, rfl⟩
abbrev main_call1_v1 : Ref sig .tc := ⟨.hbm, 82, rfl⟩
abbrev main_call1_cst_0 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_call1_v5 : Ref sig .tc := ⟨.hbm, 87, rfl⟩
abbrev main_call1_v6 : Ref sig .tc := ⟨.hbm, 88, rfl⟩
abbrev main_call1_v7 : Ref sig .tc := ⟨.hbm, 89, rfl⟩
abbrev main_call1_cst_1 : Ref sig .tc := ⟨.hbm, 90, rfl⟩
abbrev main_call1_v8 : Ref sig .tc := ⟨.hbm, 91, rfl⟩
abbrev main_call1_cst_2 : Ref sig .tc := ⟨.hbm, 92, rfl⟩
abbrev main_call1_v9 : Ref sig .tc := ⟨.hbm, 93, rfl⟩
abbrev main_call1_v10 : Ref sig .tc := ⟨.hbm, 94, rfl⟩
abbrev main_call1_v11 : Ref sig .tc := ⟨.hbm, 95, rfl⟩
abbrev main_call1_v12 : Ref sig .tc := ⟨.hbm, 96, rfl⟩
abbrev main_call1_cst_3 : Ref sig .tc := ⟨.hbm, 97, rfl⟩
abbrev main_call1_v13 : Ref sig .tc := ⟨.hbm, 98, rfl⟩
abbrev main_call1_cst_4 : Ref sig .tc := ⟨.hbm, 99, rfl⟩
abbrev main_call1_call0_v0 : Ref sig .tc := ⟨.hbm, 100, rfl⟩
abbrev main_call1_call0_v1 : Ref sig .tc := ⟨.hbm, 101, rfl⟩
abbrev main_v31 : Ref sig .tc := ⟨.hbm, 102, rfl⟩
abbrev main_v32 : Ref sig .tc := ⟨.hbm, 103, rfl⟩
abbrev main_v33 : Ref sig .tc := ⟨.hbm, 104, rfl⟩
abbrev main_cst_12 : Ref sig .tc := ⟨.hbm, 105, rfl⟩
abbrev main_v34 : Ref sig .tc := ⟨.hbm, 106, rfl⟩
abbrev main_v35 : Ref sig .tc := ⟨.hbm, 107, rfl⟩
abbrev main_v36 : Ref sig .tc := ⟨.hbm, 108, rfl⟩
abbrev main_v37 : Ref sig .tc := ⟨.hbm, 109, rfl⟩
abbrev main_v38 : Ref sig .tc := ⟨.hbm, 110, rfl⟩
abbrev main_v39 : Ref sig .tc := ⟨.hbm, 111, rfl⟩
abbrev main_v40 : Ref sig .tc := ⟨.hbm, 112, rfl⟩
abbrev main_v41 : Ref sig .tc := ⟨.hbm, 113, rfl⟩
abbrev main_v42 : Ref sig .tc := ⟨.hbm, 114, rfl⟩
abbrev main_v43 : Ref sig .tc := ⟨.hbm, 115, rfl⟩
abbrev main_v44 : Ref sig .tc := ⟨.hbm, 116, rfl⟩
abbrev main_v45 : Ref sig .tc := ⟨.hbm, 117, rfl⟩
abbrev main_v46 : Ref sig .tc := ⟨.hbm, 118, rfl⟩
abbrev main_v47 : Ref sig .tc := ⟨.hbm, 119, rfl⟩
abbrev main_v48 : Ref sig .tc := ⟨.hbm, 120, rfl⟩
abbrev main_v49 : Ref sig .tc := ⟨.hbm, 121, rfl⟩
abbrev main_v50 : Ref sig .tc := ⟨.hbm, 122, rfl⟩
abbrev main_v51 : Ref sig .tc := ⟨.hbm, 123, rfl⟩
abbrev main_v52 : Ref sig .tc := ⟨.hbm, 124, rfl⟩
abbrev main_v53 : Ref sig .tc := ⟨.hbm, 125, rfl⟩
abbrev main_v54 : Ref sig .tc := ⟨.hbm, 126, rfl⟩
abbrev main_v55 : Ref sig .tc := ⟨.hbm, 127, rfl⟩
abbrev main_v56 : Ref sig .tc := ⟨.hbm, 128, rfl⟩
abbrev main_v57 : Ref sig .tc := ⟨.hbm, 129, rfl⟩
abbrev main_v58 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_cst_13 : Ref sig .tc := ⟨.hbm, 135, rfl⟩
abbrev main_v63 : Ref sig .tc := ⟨.hbm, 136, rfl⟩
abbrev main_v64 : Ref sig .tc := ⟨.hbm, 137, rfl⟩
abbrev main_v65 : Ref sig .tc := ⟨.hbm, 138, rfl⟩
abbrev main_cst_14 : Ref sig .tc := ⟨.hbm, 139, rfl⟩
abbrev main_call2_v0 : Ref sig .tc := ⟨.hbm, 140, rfl⟩
abbrev main_call2_v1 : Ref sig .tc := ⟨.hbm, 141, rfl⟩
abbrev main_v66 : Ref sig .tc := ⟨.hbm, 142, rfl⟩
abbrev main_cst_15 : Ref sig .tc := ⟨.hbm, 143, rfl⟩
abbrev main_v67 : Ref sig .tc := ⟨.hbm, 144, rfl⟩
abbrev main_cst_16 : Ref sig .tc := ⟨.hbm, 145, rfl⟩
abbrev main_v68 : Ref sig .tc := ⟨.hbm, 146, rfl⟩
abbrev main_v69 : Ref sig .tc := ⟨.hbm, 147, rfl⟩
abbrev main_v70 : Ref sig .tc := ⟨.hbm, 148, rfl⟩
abbrev main_v71 : Ref sig .tc := ⟨.hbm, 149, rfl⟩
abbrev main_v72 : Ref sig .tc := ⟨.hbm, 150, rfl⟩
abbrev main_v73 : Ref sig .tc := ⟨.hbm, 151, rfl⟩
abbrev main_cst_17 : Ref sig .tc := ⟨.hbm, 152, rfl⟩
abbrev main_v74 : Ref sig .tc := ⟨.hbm, 153, rfl⟩
abbrev main_v75 : Ref sig .tc := ⟨.hbm, 154, rfl⟩
abbrev main_v76 : Ref sig .tc := ⟨.hbm, 155, rfl⟩
abbrev main_v77 : Ref sig .tc := ⟨.hbm, 156, rfl⟩
abbrev main_v78 : Ref sig .tc := ⟨.hbm, 157, rfl⟩
abbrev main_v79 : Ref sig .tc := ⟨.hbm, 158, rfl⟩
abbrev main_v80 : Ref sig .tc := ⟨.hbm, 159, rfl⟩
abbrev main_v81 : Ref sig .tc := ⟨.hbm, 160, rfl⟩
abbrev main_v82 : Ref sig .tc := ⟨.hbm, 161, rfl⟩
abbrev main_v83 : Ref sig .tc := ⟨.hbm, 162, rfl⟩
abbrev main_v84 : Ref sig .tc := ⟨.hbm, 163, rfl⟩
abbrev main_cst_18 : Ref sig .tc := ⟨.hbm, 164, rfl⟩
abbrev main_v85 : Ref sig .tc := ⟨.hbm, 165, rfl⟩
abbrev main_v86 : Ref sig .tc := ⟨.hbm, 166, rfl⟩
abbrev main_cst_19 : Ref sig .tc := ⟨.hbm, 167, rfl⟩
abbrev main_v87 : Ref sig .tc := ⟨.hbm, 168, rfl⟩
abbrev main_v88 : Ref sig .tc := ⟨.hbm, 169, rfl⟩
abbrev main_c_20 : Ref sig .tc := ⟨.hbm, 170, rfl⟩
abbrev main_call3_cst : Ref sig .tc := ⟨.hbm, 171, rfl⟩
abbrev main_call3_v0 : Ref sig .tc := ⟨.hbm, 172, rfl⟩
abbrev main_call3_v1 : Ref sig .tc := ⟨.hbm, 173, rfl⟩
abbrev main_call3_cst_0 : Ref sig .tc := ⟨.hbm, 174, rfl⟩
abbrev main_call3_v2 : Ref sig .tc := ⟨.hbm, 175, rfl⟩
abbrev main_call3_v3 : Ref sig .tc := ⟨.hbm, 176, rfl⟩
abbrev main_call3_v4 : Ref sig .tc := ⟨.hbm, 177, rfl⟩
abbrev main_call3_v5 : Ref sig .tc := ⟨.hbm, 178, rfl⟩
abbrev main_call3_v6 : Ref sig .tc := ⟨.hbm, 179, rfl⟩
abbrev main_call3_v7 : Ref sig .tc := ⟨.hbm, 180, rfl⟩
abbrev main_call3_cst_1 : Ref sig .tc := ⟨.hbm, 181, rfl⟩
abbrev main_call3_v8 : Ref sig .tc := ⟨.hbm, 182, rfl⟩
abbrev main_call3_cst_2 : Ref sig .tc := ⟨.hbm, 183, rfl⟩
abbrev main_call3_v9 : Ref sig .tc := ⟨.hbm, 184, rfl⟩
abbrev main_call3_v10 : Ref sig .tc := ⟨.hbm, 185, rfl⟩
abbrev main_call3_v11 : Ref sig .tc := ⟨.hbm, 186, rfl⟩
abbrev main_call3_v12 : Ref sig .tc := ⟨.hbm, 187, rfl⟩
abbrev main_call3_cst_3 : Ref sig .tc := ⟨.hbm, 188, rfl⟩
abbrev main_call3_v13 : Ref sig .tc := ⟨.hbm, 189, rfl⟩
abbrev main_call3_cst_4 : Ref sig .tc := ⟨.hbm, 190, rfl⟩
abbrev main_call3_call0_v0 : Ref sig .tc := ⟨.hbm, 191, rfl⟩
abbrev main_call3_call0_v1 : Ref sig .tc := ⟨.hbm, 192, rfl⟩
abbrev main_v89 : Ref sig .tc := ⟨.hbm, 193, rfl⟩
abbrev main_v90 : Ref sig .tc := ⟨.hbm, 194, rfl⟩
abbrev main_v91 : Ref sig .tc := ⟨.hbm, 195, rfl⟩
abbrev main_cst_21 : Ref sig .tc := ⟨.hbm, 196, rfl⟩
abbrev main_v92 : Ref sig .tc := ⟨.hbm, 197, rfl⟩
abbrev main_v93 : Ref sig .tc := ⟨.hbm, 198, rfl⟩
abbrev main_v94 : Ref sig .tc := ⟨.hbm, 199, rfl⟩
abbrev main_v95 : Ref sig .tc := ⟨.hbm, 200, rfl⟩
abbrev main_v96 : Ref sig .tc := ⟨.hbm, 201, rfl⟩
abbrev main_v97 : Ref sig .tc := ⟨.hbm, 202, rfl⟩
abbrev main_v98 : Ref sig .tc := ⟨.hbm, 203, rfl⟩
abbrev main_v99 : Ref sig .tc := ⟨.hbm, 204, rfl⟩
abbrev main_v100 : Ref sig .tc := ⟨.hbm, 205, rfl⟩
abbrev main_v101 : Ref sig .tc := ⟨.hbm, 206, rfl⟩
abbrev main_v102 : Ref sig .tc := ⟨.hbm, 207, rfl⟩

abbrev nD : Nat := 1
abbrev τ : Topo := Topo.v7x

variable {F : FTy → Type} [FloatOps F]
-- ==== Proof.Row.lean ====
/- One batch row, over the extended reals: what the kernel and what the reference compute of it, and that
   the two agree. Nothing here names a program: a row is a function of its coordinate. -/
module

public import Idealize.ShloMosaic.PureOps.Ideal.Laws
public import Idealize.ShloMosaic.Lib.IdealHost

@[expose] public section

noncomputable section

namespace Cert.Row

open Idealize.ShloMosaic

/-! ## The row functions -/

/-- The literal 256 of both programs. -/
def c256 : EReal := Ideal.ofBits .f32 0x43800000#32
/-- The literal 1e-5 (as binary32 holds it) of both programs. -/
def ceps : EReal := Ideal.ofBits .f32 0x3727C5AC#32
/-- The reference's literal 16. -/
def c16 : EReal := Ideal.ofBits .f32 0x41800000#32
/-- The kernel's literal 1/16. -/
def c16th : EReal := Ideal.ofBits .f32 0x3D800000#32

/-- The mean of a row. -/
def mean (x : Fin 256 → EReal) : EReal := Ideal.div (∑ k, x k) c256
/-- The variance of a row. -/
def var (x : Fin 256 → EReal) : EReal := Ideal.div (∑ k, (x k - mean x) * (x k - mean x)) c256
/-- The kernel's layer normalization: a product with the reciprocal square root. -/
def norm (x g b : Fin 256 → EReal) (d : Fin 256) : EReal :=
  (x d - mean x) * Ideal.rsqrt (var x + ceps) * g d + b d
/-- The reference's layer normalization: a quotient by the square root. -/
def normRef (x g b : Fin 256 → EReal) (d : Fin 256) : EReal :=
  Ideal.div (x d - mean x) (Ideal.sqrt (var x + ceps)) * g d + b d
/-- A linear layer `x Wᵀ + b`. -/
def lin (x : Fin 256 → EReal) (W : Fin 256 → Fin 256 → EReal) (b : Fin 256 → EReal) (j : Fin 256) : EReal :=
  ∑ k, x k * W j k + b j
/-- The kernel's folded query: the query projected back through the key weights, scaled by 1/16. -/
def fold (p : Fin 256 → EReal) (W : Fin 256 → Fin 256 → EReal) (d : Fin 256) : EReal :=
  (∑ j, p j * W j d) * c16th
/-- A score: the product of a query with one stored row. -/
def score (q k : Fin 256 → EReal) : EReal := ∑ d, q d * k d
/-- The maximum of 256 scores, from −∞. -/
def top (q : Fin 256 → EReal) (K : Fin 256 → Fin 256 → EReal) : EReal :=
  Finset.univ.fold max (Ideal.ofBits .f32 0xFF800000#32) fun x => score q (K x)
/-- The maximum of the four quarters' scores. -/
def top4 (q : Fin 256 → EReal) (K0 K1 K2 K3 : Fin 256 → Fin 256 → EReal) : EReal :=
  max (max (max (top q K0) (top q K1)) (top q K2)) (top q K3)
/-- The weight of one stored row, before normalization. -/
def wt (q : Fin 256 → EReal) (k : Fin 256 → EReal) (M : EReal) : EReal := Ideal.exp (score q k - M)
/-- The kernel's weighted mean of the stored value rows, taken over four quarters. -/
def gather (q : Fin 256 → EReal) (K0 K1 K2 K3 V0 V1 V2 V3 : Fin 256 → Fin 256 → EReal) (M : EReal) (d : Fin 256) : EReal :=
  (∑ x, wt q (K0 x) M * V0 x d + ∑ x, wt q (K1 x) M * V1 x d + ∑ x, wt q (K2 x) M * V2 x d + ∑ x, wt q (K3 x) M * V3 x d)
    * Ideal.div 1 (∑ x, wt q (K0 x) M + ∑ x, wt q (K1 x) M + ∑ x, wt q (K2 x) M + ∑ x, wt q (K3 x) M)
/-- Quarter `o` of the 1024 rows written, `o` a multiple of 256. -/
def quarter (o : ℕ) (h : o + 256 ≤ 1024) (K : Fin 1024 → Fin 256 → EReal) (x : Fin 256) : Fin 256 → EReal :=
  K ⟨o + x, by omega⟩

/-- The kernel's retrieved row, of the projected query `p`. -/
def kernelRet (p : Fin 256 → EReal) (Wk Wv : Fin 256 → Fin 256 → EReal) (bv : Fin 256 → EReal)
    (K0 K1 K2 K3 V0 V1 V2 V3 : Fin 256 → Fin 256 → EReal) : Fin 256 → EReal :=
  lin (gather (fold p Wk) K0 K1 K2 K3 V0 V1 V2 V3 (top4 (fold p Wk) K0 K1 K2 K3)) Wv bv

/-- The reference's score of slot `m` of the memory, −∞ where nothing was written. -/
def slotScore (p : Fin 256 → EReal) (Wk : Fin 256 → Fin 256 → EReal) (bk : Fin 256 → EReal)
    (mk : Fin 2048 → Fin 256 → EReal) (m : Fin 2048) : EReal :=
  if (m : ℕ) < 1024 then Ideal.div (∑ j, p j * lin (mk m) Wk bk j) c16 else Ideal.ofBits .f32 0xFF800000#32
/-- The reference's maximum over all slots. -/
def slotTop (s : Fin 2048 → EReal) : EReal :=
  max (Ideal.ofBits .f32 0xFF800000#32) (Finset.univ.fold max (Ideal.ofBits .f32 0xFF800000#32) s)
/-- The reference's retrieved row: softmax over the slots, applied to the projected values. -/
def refRet (s : Fin 2048 → EReal) (mv : Fin 2048 → Fin 256 → EReal) (Wv : Fin 256 → Fin 256 → EReal) (bv : Fin 256 → EReal)
    (j : Fin 256) : EReal :=
  ∑ m, Ideal.div (Ideal.exp (s m - slotTop s)) (∑ n, Ideal.exp (s n - slotTop s)) * lin (mv m) Wv bv j
/-- The memory: the rows written in the first 1024 slots, zero in the others. -/
def slots (K : Fin 1024 → Fin 256 → EReal) (m : Fin 2048) (d : Fin 256) : EReal :=
  if h : (m : ℕ) < 1024 then K ⟨m, h⟩ d else 0

/-! ## Literals -/

theorem c256_eq : c256 = ((256 : ℝ) : EReal) := by
  unfold c256; simp [Ideal.ofBits, Ideal.ieee, -EReal.coe_mul]; norm_num
theorem c16_eq : c16 = ((16 : ℝ) : EReal) := by
  unfold c16; simp [Ideal.ofBits, Ideal.ieee, -EReal.coe_mul]; norm_num
theorem c16th_eq : c16th = ((1 / 16 : ℝ) : EReal) := by
  unfold c16th; simp [Ideal.ofBits, Ideal.ieee, -EReal.coe_mul]; norm_num
theorem ceps_pos : ∃ e : ℝ, 0 < e ∧ ceps = (e : EReal) := by
  refine ⟨10995116 * 2 ^ (-40 : ℤ), by positivity, ?_⟩
  unfold ceps; simp [Ideal.ofBits, Ideal.ieee, -EReal.coe_mul]
theorem neg_inf_eq : Ideal.ofBits .f32 0xFF800000#32 = ⊥ := by
  simp [Ideal.ofBits, Ideal.ieee]

/-! ## Sums of reals, and sums cut in pieces -/

/-- The sum of reals as extended reals is the real sum. -/
theorem coe_sum {ι : Type} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

/-- A sum over 1024 rows is the sum of its four quarters. -/
theorem sum_quarters (f : Fin 1024 → ℝ) :
    ∑ t, f t = ∑ x : Fin 256, f ⟨0 + x, by omega⟩ + ∑ x : Fin 256, f ⟨256 + x, by omega⟩ + ∑ x : Fin 256, f ⟨512 + x, by omega⟩
      + ∑ x : Fin 256, f ⟨768 + x, by omega⟩ := by
  have h3 := Fin.sum_univ_add (a := 768) (b := 256) f
  have h2 := Fin.sum_univ_add (a := 512) (b := 256) fun i => f (Fin.castAdd 256 i)
  have h1 := Fin.sum_univ_add (a := 256) (b := 256) fun i => f (Fin.castAdd 256 (Fin.castAdd 256 i))
  refine h3.trans ?_
  rw [h2, h1]
  simp only [zero_add]
  rfl

/-- A sum over 2048 slots is the sum over the first 1024 and over the others. -/
theorem sum_slots (f : Fin 2048 → EReal) :
    ∑ m, f m = ∑ t : Fin 1024, f ⟨t, by omega⟩ + ∑ t : Fin 1024, f ⟨1024 + t, by omega⟩ :=
  Fin.sum_univ_add (a := 1024) (b := 1024) f

/-! ## Layer normalization -/

/-- A square is not negative. -/
theorem mul_self_nonneg' (y : EReal) : 0 ≤ y * y := by
  induction y with
  | bot => simp
  | top => simp
  | coe r => rw [← EReal.coe_mul]; exact_mod_cast mul_self_nonneg r

/-- The variance is not negative. -/
theorem var_nonneg (x : Fin 256 → EReal) : 0 ≤ var x := by
  unfold var
  rw [c256_eq, Ideal.div_coe (by norm_num)]
  exact mul_nonneg (Finset.sum_nonneg fun k _ => mul_self_nonneg' _) (by exact_mod_cast (by norm_num : (0 : ℝ) ≤ 1 / 256))

/-- Under a root that is positive, the quotient by the square root is the product with its reciprocal. -/
theorem div_sqrt (y w : EReal) (hw : 0 < w) : Ideal.div y (Ideal.sqrt w) = y * Ideal.rsqrt w := by
  induction w with
  | bot => exact absurd hw (by simp)
  | top => show Ideal.div y ⊤ = y * 0; simp [Ideal.div]
  | coe r =>
    have hr : 0 < r := by exact_mod_cast hw
    have hs : Real.sqrt r ≠ 0 := (Real.sqrt_pos.2 hr).ne'
    rw [Ideal.sqrt_coe, Ideal.rsqrt_coe, if_neg hr.le.not_gt, if_neg hr.le.not_gt, if_neg hr.ne']
    rw [Ideal.div_coe hs, one_div]

/-- The number under the root is positive. -/
theorem var_eps_pos (x : Fin 256 → EReal) : 0 < var x + ceps := by
  obtain ⟨e, he, h⟩ := ceps_pos
  rw [h]
  calc (0 : EReal) < (e : EReal) := by exact_mod_cast he
    _ ≤ var x + e := le_add_of_nonneg_left (var_nonneg x)

/-- The two layer normalizations are one function, at every row. -/
theorem normRef_eq (x g b : Fin 256 → EReal) : normRef x g b = norm x g b := by
  funext d
  unfold normRef norm
  rw [div_sqrt _ _ (var_eps_pos x)]

/-- A square that is finite is the square of a real. -/
theorem real_of_sq {y : EReal} (h : y * y ≠ ⊤) : ∃ r : ℝ, y = r := by
  induction y with
  | bot => simp at h
  | top => simp at h
  | coe r => exact ⟨r, rfl⟩

/-- Layer normalization with a finite gain and a finite offset is finite, whatever the row holds: an infinite
    entry makes the variance infinite, and then the scale is zero. -/
theorem norm_real (x : Fin 256 → EReal) (g b : Fin 256 → ℝ) (d : Fin 256) :
    ∃ y : ℝ, norm x (fun k => g k) (fun k => b k) d = y := by
  obtain ⟨e, he, h⟩ := ceps_pos
  have hp := var_eps_pos x
  unfold norm
  rw [h] at hp ⊢
  rcases eq_or_ne (var x) ⊤ with hv | hv
  · refine ⟨b d, ?_⟩
    rw [hv]
    show (x d - mean x) * Ideal.rsqrt (⊤ + (e : EReal)) * (g d : EReal) + b d = b d
    rw [EReal.top_add_coe]
    show (x d - mean x) * 0 * (g d : EReal) + b d = b d
    simp
  · have hsum : ∑ k, (x k - mean x) * (x k - mean x) ≠ ⊤ := by
      intro hs
      apply hv
      unfold var
      rw [hs, c256_eq, Ideal.div_coe (by norm_num)]
      exact EReal.top_mul_coe_of_pos (by norm_num)
    have hd : (x d - mean x) * (x d - mean x) ≠ ⊤ := by
      intro hs
      apply hsum
      refine top_le_iff.1 (hs ▸ ?_)
      exact Finset.single_le_sum (f := fun k => (x k - mean x) * (x k - mean x)) (fun k _ => mul_self_nonneg' _) (Finset.mem_univ d)
    obtain ⟨r, hr⟩ := real_of_sq hd
    obtain ⟨v, hvr⟩ : ∃ v : ℝ, var x = v := by
      have h0 := var_nonneg x
      cases hx : var x with
      | bot => rw [hx] at h0; simp at h0
      | top => exact absurd hx hv
      | coe v => exact ⟨v, rfl⟩
    rw [hvr, ← EReal.coe_add] at hp
    have hp' : 0 < v + e := by exact_mod_cast hp
    refine ⟨r * (Real.sqrt (v + e))⁻¹ * g d + b d, ?_⟩
    rw [hr, hvr, ← EReal.coe_add]
    rw [Ideal.rsqrt_coe, if_neg hp'.le.not_gt, if_neg hp'.ne']
    simp only [EReal.coe_add, EReal.coe_mul]

/-! ## Attention -/

/-- A linear layer of reals is real. -/
theorem lin_coe (x : Fin 256 → ℝ) (W : Fin 256 → Fin 256 → ℝ) (b : Fin 256 → ℝ) (j : Fin 256) :
    lin (fun k => x k) (fun i k => W i k) (fun k => b k) j = ((∑ k, x k * W j k + b j : ℝ) : EReal) := by
  simp only [lin, ← EReal.coe_mul, coe_sum, ← EReal.coe_add]

/-- The folded query of reals is real. -/
theorem fold_coe (p : Fin 256 → ℝ) (W : Fin 256 → Fin 256 → ℝ) :
    fold (fun k => p k) (fun i k => W i k) = fun d => (((∑ j, p j * W j d) * (1 / 16) : ℝ) : EReal) := by
  funext d
  simp only [fold, c16th_eq, ← EReal.coe_mul, coe_sum]

/-- A score of reals is real. -/
theorem score_coe (q k : Fin 256 → ℝ) : score (fun d => q d) (fun d => k d) = ((∑ d, q d * k d : ℝ) : EReal) := by
  simp only [score, ← EReal.coe_mul, coe_sum]

/-- A maximum from −∞ is one of the elements. -/
theorem fold_max_mem {ι : Type} [Fintype ι] [Nonempty ι] (f : ι → EReal) : ∃ i, Finset.univ.fold max ⊥ f = f i := by
  obtain ⟨i, -, h⟩ := Finset.exists_mem_eq_sup Finset.univ Finset.univ_nonempty f
  exact ⟨i, h⟩

/-- The maximum of the quarters' scores is real. -/
theorem top4_real (q : Fin 256 → ℝ) (K0 K1 K2 K3 : Fin 256 → Fin 256 → ℝ) :
    ∃ M : ℝ, top4 (fun d => q d) (fun x d => K0 x d) (fun x d => K1 x d) (fun x d => K2 x d) (fun x d => K3 x d) = M := by
  have h : ∀ K : Fin 256 → Fin 256 → ℝ, ∃ M : ℝ, top (fun d => q d) (fun x d => K x d) = M := fun K => by
    unfold top
    rw [neg_inf_eq]
    obtain ⟨i, hi⟩ := fold_max_mem fun x => score (fun d => (q d : EReal)) (fun d => (K x d : EReal))
    exact ⟨_, hi.trans (score_coe _ _)⟩
  obtain ⟨M0, h0⟩ := h K0
  obtain ⟨M1, h1⟩ := h K1
  obtain ⟨M2, h2⟩ := h K2
  obtain ⟨M3, h3⟩ := h K3
  refine ⟨max (max (max M0 M1) M2) M3, ?_⟩
  unfold top4
  rw [h0, h1, h2, h3]
  simp only [EReal.coe_strictMono.monotone.map_max]

/-- The weighted mean over the four quarters, of reals: the softmax mean over the 1024 rows. The shift `M` of the
    exponents cancels. -/
theorem gather_coe (q : Fin 256 → ℝ) (K V : Fin 1024 → Fin 256 → ℝ) (M : ℝ) (d : Fin 256) :
    gather (fun d => q d) (quarter 0 (by omega) fun t d => K t d) (quarter 256 (by omega) fun t d => K t d)
        (quarter 512 (by omega) fun t d => K t d) (quarter 768 (by omega) fun t d => K t d)
        (quarter 0 (by omega) fun t d => V t d) (quarter 256 (by omega) fun t d => V t d)
        (quarter 512 (by omega) fun t d => V t d) (quarter 768 (by omega) fun t d => V t d) M d
      = (((∑ t, Real.exp (∑ d, q d * K t d) * V t d) / ∑ t, Real.exp (∑ d, q d * K t d) : ℝ) : EReal) := by
  have hw : ∀ k : Fin 256 → ℝ, wt (fun d => (q d : EReal)) (fun d => (k d : EReal)) M
      = ((Real.exp (∑ d, q d * k d) * Real.exp (-M) : ℝ) : EReal) := fun k => by
    rw [wt, score_coe, ← EReal.coe_sub, ← Real.exp_add, sub_eq_add_neg]
    rfl
  have hZ : (0 : ℝ) < ∑ t, Real.exp (∑ d, q d * K t d) := Finset.sum_pos (fun t _ => Real.exp_pos _) Finset.univ_nonempty
  have hM := Real.exp_pos (-M)
  simp only [gather, quarter, hw, ← EReal.coe_mul, coe_sum, ← EReal.coe_add]
  rw [← sum_quarters fun t => Real.exp (∑ d, q d * K t d) * Real.exp (-M),
    ← sum_quarters fun t => Real.exp (∑ d, q d * K t d) * Real.exp (-M) * V t d, ← Finset.sum_mul,
    Ideal.div_coe (mul_pos hZ hM).ne', one_mul, ← EReal.coe_mul]
  congr 1
  rw [show ∑ t, Real.exp (∑ d, q d * K t d) * Real.exp (-M) * V t d
      = (∑ t, Real.exp (∑ d, q d * K t d) * V t d) * Real.exp (-M) by
    rw [Finset.sum_mul]; exact Finset.sum_congr rfl fun t _ => by ring]
  field_simp

/-- A mean with positive weights of total one, of reals each shifted by the same extended real: the mean of the
    reals, shifted. -/
theorem mean_shift {ι : Type} [Fintype ι] [Nonempty ι] (w a : ι → ℝ) (hw : ∀ i, 0 < w i) (h1 : ∑ i, w i = 1) (b : EReal) :
    ∑ i, (w i : EReal) * ((a i : EReal) + b) = ((∑ i, w i * a i : ℝ) : EReal) + b := by
  induction b with
  | bot =>
    obtain ⟨i⟩ := ‹Nonempty ι›
    simp only [EReal.add_bot, EReal.coe_mul_bot_of_pos (hw _)]
    classical
    rw [← Finset.add_sum_erase _ _ (Finset.mem_univ i), EReal.bot_add]
  | top =>
    simp only [EReal.coe_add_top, EReal.coe_mul_top_of_pos (hw _)]
    refine top_le_iff.1 ?_
    obtain ⟨i⟩ := ‹Nonempty ι›
    exact Finset.single_le_sum (f := fun _ : ι => (⊤ : EReal)) (fun _ _ => le_top) (Finset.mem_univ i)
  | coe b =>
    simp only [← EReal.coe_add, ← EReal.coe_mul, coe_sum]
    congr 1
    simp only [mul_add, Finset.sum_add_distrib, ← Finset.sum_mul, h1, one_mul]

/-- The reference's score of a written slot: the kernel's score and a constant of the row, the keys' offset. -/
theorem slotScore_coe (p : Fin 256 → ℝ) (Wk : Fin 256 → Fin 256 → ℝ) (bk : Fin 256 → ℝ) (K : Fin 1024 → Fin 256 → ℝ) (t : Fin 1024) :
    slotScore (fun k => p k) (fun i k => Wk i k) (fun k => bk k) (slots fun t d => K t d) ⟨t, by omega⟩
      = ((∑ d, ((∑ j, p j * Wk j d) * (1 / 16)) * K t d + (∑ j, p j * bk j) / 16 : ℝ) : EReal) := by
  have hs : (slots fun t d => (K t d : EReal)) ⟨t, by omega⟩ = fun d => (K t d : EReal) := by
    funext d; simp [slots, t.isLt]
  rw [slotScore, if_pos t.isLt, hs]
  simp only [lin_coe, ← EReal.coe_mul, coe_sum, c16_eq]
  rw [Ideal.div_coe (by norm_num), ← EReal.coe_mul]
  congr 1
  simp only [mul_add, Finset.sum_add_distrib, add_mul, Finset.sum_mul, Finset.mul_sum, Finset.sum_div]
  congr 1
  · rw [Finset.sum_comm]
    exact Finset.sum_congr rfl fun d _ => Finset.sum_congr rfl fun j _ => by ring
  · exact Finset.sum_congr rfl fun j _ => by ring

/-- Slots that were not written score −∞. -/
theorem slotScore_unwritten (p : Fin 256 → EReal) (Wk : Fin 256 → Fin 256 → EReal) (bk : Fin 256 → EReal)
    (mk : Fin 2048 → Fin 256 → EReal) (t : Fin 1024) : slotScore p Wk bk mk ⟨1024 + t, by omega⟩ = ⊥ := by
  rw [slotScore, if_neg (by simp), neg_inf_eq]

/-- The maximum over all slots is real where the written slots' scores are real and the others' −∞. -/
theorem slotTop_real (s : Fin 2048 → EReal) (r : Fin 1024 → ℝ) (h1 : ∀ t : Fin 1024, s ⟨t, by omega⟩ = r t)
    (h2 : ∀ t : Fin 1024, s ⟨1024 + t, by omega⟩ = ⊥) : ∃ M : ℝ, slotTop s = M := by
  obtain ⟨i, hi⟩ := fold_max_mem s
  have hb : ⊥ < Finset.univ.fold max ⊥ s := by
    refine lt_of_lt_of_le ?_ (Finset.le_sup (f := s) (Finset.mem_univ ⟨0, by omega⟩))
    exact (h1 0).symm ▸ EReal.bot_lt_coe _
  rw [slotTop, neg_inf_eq, max_eq_right bot_le]
  by_cases hlt : (i : ℕ) < 1024
  · exact ⟨_, hi.trans (h1 ⟨i, hlt⟩)⟩
  · have := h2 ⟨i - 1024, by omega⟩
    rw [hi, show i = ⟨1024 + (i - 1024), by omega⟩ from Fin.ext (by simp; omega), this] at hb
    exact absurd hb (lt_irrefl _)

/-- The reference's retrieved row where the written slots' scores are reals and the others' −∞: the softmax mean over
    the 1024 written rows of the projected values. The shift `c` of the scores cancels. -/
theorem refRet_coe (s : Fin 2048 → EReal) (r : Fin 1024 → ℝ) (c : ℝ) (h1 : ∀ t : Fin 1024, s ⟨t, by omega⟩ = ((r t + c : ℝ) : EReal))
    (h2 : ∀ t : Fin 1024, s ⟨1024 + t, by omega⟩ = ⊥) (V : Fin 1024 → Fin 256 → ℝ) (Wv : Fin 256 → Fin 256 → ℝ)
    (bv : Fin 256 → EReal) (j : Fin 256) :
    refRet s (slots fun t d => V t d) (fun i k => Wv i k) bv j
      = ((∑ t, Real.exp (r t) / (∑ t, Real.exp (r t)) * ∑ d, V t d * Wv j d : ℝ) : EReal) + bv j := by
  obtain ⟨M, hM⟩ := slotTop_real s (fun t => r t + c) h1 h2
  have hZ : (0 : ℝ) < ∑ t, Real.exp (r t) := Finset.sum_pos (fun t _ => Real.exp_pos _) Finset.univ_nonempty
  have hC := Real.exp_pos (c - M)
  have e1 : ∀ t : Fin 1024, Ideal.exp (s ⟨t, by omega⟩ - M) = ((Real.exp (r t) * Real.exp (c - M) : ℝ) : EReal) := fun t => by
    rw [h1, ← EReal.coe_sub, ← Real.exp_add, add_sub_assoc]; rfl
  have e2 : ∀ t : Fin 1024, Ideal.exp (s ⟨1024 + t, by omega⟩ - M) = 0 := fun t => by
    rw [h2, EReal.bot_sub]; rfl
  have hZe : ∑ n, Ideal.exp (s n - M) = (((∑ t, Real.exp (r t)) * Real.exp (c - M) : ℝ) : EReal) := by
    rw [sum_slots]
    simp only [e1, e2, coe_sum, Finset.sum_const_zero, add_zero, Finset.sum_mul]
  unfold refRet
  rw [hM, hZe, sum_slots]
  simp only [e1, e2]
  rw [Finset.sum_eq_zero (s := Finset.univ) (f := fun t : Fin 1024 => Ideal.div 0 _ * lin _ _ bv j) fun t _ => by
    rw [Ideal.div_coe (mul_pos hZ hC).ne', zero_mul, zero_mul], add_zero]
  rw [← mean_shift (fun t => Real.exp (r t) / ∑ t, Real.exp (r t)) (fun t => ∑ d, V t d * Wv j d)
    (fun t => div_pos (Real.exp_pos _) hZ) (by rw [← Finset.sum_div, div_self hZ.ne'])]
  refine Finset.sum_congr rfl fun t _ => ?_
  rw [Ideal.div_coe (mul_pos hZ hC).ne', ← EReal.coe_mul]
  have hs : (slots fun t d => (V t d : EReal)) ⟨t, by omega⟩ = fun d => (V t d : EReal) := by
    funext d; simp [slots, t.isLt]
  rw [hs]
  rw [lin, show Real.exp (r t) * Real.exp (c - M) * (1 / ((∑ t, Real.exp (r t)) * Real.exp (c - M)))
    = Real.exp (r t) / ∑ t, Real.exp (r t) by field_simp]
  simp only [← EReal.coe_mul, coe_sum]

/-- The retrieved rows agree: for a real projected query, real keys, values and weights, and any offset of the values. -/
theorem ret_coe (p : Fin 256 → ℝ) (Wk Wv : Fin 256 → Fin 256 → ℝ) (bk : Fin 256 → ℝ) (bv : Fin 256 → EReal)
    (K V : Fin 1024 → Fin 256 → ℝ) :
    kernelRet (fun k => p k) (fun i k => Wk i k) (fun i k => Wv i k) bv
        (quarter 0 (by omega) fun t d => K t d) (quarter 256 (by omega) fun t d => K t d)
        (quarter 512 (by omega) fun t d => K t d) (quarter 768 (by omega) fun t d => K t d)
        (quarter 0 (by omega) fun t d => V t d) (quarter 256 (by omega) fun t d => V t d)
        (quarter 512 (by omega) fun t d => V t d) (quarter 768 (by omega) fun t d => V t d)
      = refRet (slotScore (fun k => p k) (fun i k => Wk i k) (fun k => bk k) (slots fun t d => K t d))
          (slots fun t d => V t d) (fun i k => Wv i k) bv := by
  funext j
  obtain ⟨M, hM⟩ := top4_real (fun d => (∑ j, p j * Wk j d) * (1 / 16)) (fun x => K ⟨0 + x, by omega⟩)
    (fun x => K ⟨256 + x, by omega⟩) (fun x => K ⟨512 + x, by omega⟩) (fun x => K ⟨768 + x, by omega⟩)
  rw [refRet_coe _ _ _ (slotScore_coe p Wk bk K) (slotScore_unwritten _ _ _ _) V Wv bv j]
  unfold kernelRet
  rw [fold_coe]
  have hM' : top4 (fun d => (((∑ j, p j * Wk j d) * (1 / 16) : ℝ) : EReal)) (quarter 0 (by omega) fun t d => (K t d : EReal))
      (quarter 256 (by omega) fun t d => (K t d : EReal)) (quarter 512 (by omega) fun t d => (K t d : EReal))
      (quarter 768 (by omega) fun t d => (K t d : EReal)) = M := hM
  rw [hM']
  simp only [lin, gather_coe, ← EReal.coe_mul, coe_sum]
  refine congrArg (fun y : ℝ => (y : EReal) + bv j) ?_
  simp only [Finset.mul_sum, Finset.sum_mul, Finset.sum_div]
  rw [Finset.sum_comm]
  exact Finset.sum_congr rfl fun t _ => Finset.sum_congr rfl fun d _ => by ring

/-! ## The whole row -/

/-- The kernel's result row. -/
def kernelRow (x g_q b_qn g_o b_on bq bv bo : Fin 256 → EReal) (Wq Wk Wv Wo : Fin 256 → Fin 256 → EReal)
    (K0 K1 K2 K3 V0 V1 V2 V3 : Fin 256 → Fin 256 → EReal) : Fin 256 → EReal :=
  norm (lin (kernelRet (lin (norm x g_q b_qn) Wq bq) Wk Wv bv K0 K1 K2 K3 V0 V1 V2 V3) Wo bo) g_o b_on

/-- The reference's result row. -/
def refRow (x g_q b_qn g_o b_on bq bk bv bo : Fin 256 → EReal) (Wq Wk Wv Wo : Fin 256 → Fin 256 → EReal)
    (mk mv : Fin 2048 → Fin 256 → EReal) : Fin 256 → EReal :=
  normRef (lin (refRet (slotScore (lin (normRef x g_q b_qn) Wq bq) Wk bk mk) mv Wv bv) Wo bo) g_o b_on

/-- An extended real that is neither infinity. -/
def Fin' (x : EReal) : Prop := ∃ r : ℝ, x = r

/-- A family of finite extended reals is a family of reals. -/
theorem reals {ι : Type} {f : ι → EReal} (h : ∀ i, Fin' (f i)) : ∃ r : ι → ℝ, f = fun i => (r i : EReal) := by
  choose r hr using h
  exact ⟨r, funext hr⟩

/-- The same of a family of two indices. -/
theorem reals2 {ι κ : Type} {f : ι → κ → EReal} (h : ∀ i k, Fin' (f i k)) : ∃ r : ι → κ → ℝ, f = fun i k => (r i k : EReal) := by
  choose r hr using h
  exact ⟨r, funext fun i => funext (hr i)⟩

/-- The kernel's row is the reference's, wherever keys, values, the three projections in front of the softmax, their
    offsets and the first normalization's parameters are finite. The query and everything after the softmax may be
    infinite. -/
theorem kernelRow_eq (x g_q b_qn g_o b_on bq bk bv bo : Fin 256 → EReal) (Wq Wk Wv Wo : Fin 256 → Fin 256 → EReal)
    (K V : Fin 1024 → Fin 256 → EReal) (hg : ∀ i, Fin' (g_q i)) (hb : ∀ i, Fin' (b_qn i)) (hbq : ∀ i, Fin' (bq i))
    (hbk : ∀ i, Fin' (bk i)) (hWq : ∀ i k, Fin' (Wq i k)) (hWk : ∀ i k, Fin' (Wk i k)) (hWv : ∀ i k, Fin' (Wv i k))
    (hK : ∀ t d, Fin' (K t d)) (hV : ∀ t d, Fin' (V t d)) :
    kernelRow x g_q b_qn g_o b_on bq bv bo Wq Wk Wv Wo
        (quarter 0 (by omega) K) (quarter 256 (by omega) K) (quarter 512 (by omega) K) (quarter 768 (by omega) K)
        (quarter 0 (by omega) V) (quarter 256 (by omega) V) (quarter 512 (by omega) V) (quarter 768 (by omega) V)
      = refRow x g_q b_qn g_o b_on bq bk bv bo Wq Wk Wv Wo (slots K) (slots V) := by
  obtain ⟨g_q, rfl⟩ := reals hg
  obtain ⟨b_qn, rfl⟩ := reals hb
  obtain ⟨bq, rfl⟩ := reals hbq
  obtain ⟨bk, rfl⟩ := reals hbk
  obtain ⟨Wq, rfl⟩ := reals2 hWq
  obtain ⟨Wk, rfl⟩ := reals2 hWk
  obtain ⟨Wv, rfl⟩ := reals2 hWv
  obtain ⟨K, rfl⟩ := reals2 hK
  obtain ⟨V, rfl⟩ := reals2 hV
  obtain ⟨q, hq⟩ := reals fun d => norm_real x g_q b_qn d
  have hp : lin (norm x (fun k => (g_q k : EReal)) fun k => (b_qn k : EReal)) (fun i k => (Wq i k : EReal)) (fun k => (bq k : EReal))
      = fun j => ((∑ k, q k * Wq j k + bq j : ℝ) : EReal) := by
    funext j; rw [hq, lin_coe]
  unfold kernelRow refRow
  rw [normRef_eq, normRef_eq, hp, ret_coe _ _ _ bk]

end Cert.Row

end
-- ==== Proof.Block.lean ====
/- What one grid point of the kernel writes, row by row: the stored block at row `r` is `Row.kernelRow` of the rows
   that the staged blocks hold. -/
module

public import proofs.«01_k».proof.Proof.Row
public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.KernelIdeal.Block

open Idealize.ShloMosaic Cert.KernelIdeal Cert.KernelIdeal.Gen Cert.Row

variable [Facts]

/-- Row `r` of an 8-row block. -/
abbrev row8 (v : Vec Ideal S8x256 .f32) (r : Fin 8) : Fin 256 → EReal := fun k => v (ix2 r k)
/-- The one row of a one-row block. -/
abbrev row1 (v : Vec Ideal S1x256 .f32) : Fin 256 → EReal := fun k => v (ix2 0 k)
/-- A weight matrix by its two coordinates. -/
abbrev mat (v : Vec Ideal S256x256 .f32) : Fin 256 → Fin 256 → EReal := fun j k => v (ix2 j k)
/-- The slots of batch row `r` of a keys or values block. -/
abbrev slab (v : Vec Ideal S8x256x256 .f32) (r : Fin 8) : Fin 256 → Fin 256 → EReal := fun x d => v (ix3 r x d)

/-- The query payload: the layer norm, the query projection, and the key weight folded in with 1/16. -/
theorem pay2_apply (v0 : Vec Ideal S8x256 .f32) (v1 v3 : Vec Ideal S1x256 .f32) (v29 : Vec Ideal S256x256 .f32)
    (v31 : Vec Ideal S1x256 .f32) (v35 : Vec Ideal S256x256 .f32) (r : Fin 8) (d : Fin 256) :
    k0_pay2 v0 v1 v3 v29 v31 v35 (ix2 r d) = Row.fold (lin (norm (row8 v0 r) (row1 v1) (row1 v3)) (mat v29) (row1 v31)) (mat v35) d := by
  pointwise [k0_pay2]
  rfl

section weights

variable (q : FVec Ideal S8x256 .f32) (K0 K1 K2 K3 : Vec Ideal S8x256x256 .f32) (r : Fin 8)

/-- The running maximum over the four splits, at row `r`. -/
abbrev M4 : EReal := top4 (row8 q r) (slab K0 r) (slab K1 r) (slab K2 r) (slab K3 r)

/-- The weights of split 0. -/
theorem pay8_apply (x : Fin 256) : k0_pay8 q K0 K1 K2 K3 (ix2 r x) = wt (row8 q r) (slab K0 r x) (M4 q K0 K1 K2 K3 r) := by
  pointwise [k0_pay8, k0_pay7, k0_pay3, k0_pay4, k0_pay5, k0_pay6]
  rfl

/-- The weights of split 1. -/
theorem pay9_apply (x : Fin 256) : k0_pay9 q K0 K1 K2 K3 (ix2 r x) = wt (row8 q r) (slab K1 r x) (M4 q K0 K1 K2 K3 r) := by
  pointwise [k0_pay9, k0_pay7, k0_pay3, k0_pay4, k0_pay5, k0_pay6]
  rfl

/-- The weights of split 2. -/
theorem pay10_apply (x : Fin 256) : k0_pay10 q K0 K1 K2 K3 (ix2 r x) = wt (row8 q r) (slab K2 r x) (M4 q K0 K1 K2 K3 r) := by
  pointwise [k0_pay10, k0_pay7, k0_pay3, k0_pay4, k0_pay5, k0_pay6]
  rfl

/-- The weights of split 3. -/
theorem pay11_apply (x : Fin 256) : k0_pay11 q K0 K1 K2 K3 (ix2 r x) = wt (row8 q r) (slab K3 r x) (M4 q K0 K1 K2 K3 r) := by
  pointwise [k0_pay11, k0_pay7, k0_pay3, k0_pay4, k0_pay5, k0_pay6]
  rfl

/-- The sum of the weights of splits 0 and 1. -/
theorem pay12_apply : k0_pay12 q K0 K1 K2 K3 (ix2 r 0) = ∑ x, wt (row8 q r) (slab K0 r x) (M4 q K0 K1 K2 K3 r)
    + ∑ x, wt (row8 q r) (slab K1 r x) (M4 q K0 K1 K2 K3 r) := by
  pointwise [k0_pay12]
  simp only [pay8_apply, pay9_apply]

/-- The sum of the weights of split 2. -/
theorem pay13_apply : k0_pay13 q K0 K1 K2 K3 (ix1 r) = ∑ x, wt (row8 q r) (slab K2 r x) (M4 q K0 K1 K2 K3 r) := by
  pointwise [k0_pay13]
  simp only [pay10_apply]

/-- The attention output before its layer norm: the weighted values over the sum of the weights, then the value and
    the output projection. -/
theorem pay14_apply (V0 V1 V2 V3 : Vec Ideal S8x256x256 .f32) (Wv : Vec Ideal S256x256 .f32) (bv : Vec Ideal S1x256 .f32)
    (Wo : Vec Ideal S256x256 .f32) (bo : Vec Ideal S1x256 .f32) (d : Fin 256) :
    k0_pay14 (k0_pay8 q K0 K1 K2 K3) (k0_pay9 q K0 K1 K2 K3) (k0_pay10 q K0 K1 K2 K3) (k0_pay11 q K0 K1 K2 K3)
      (k0_pay12 q K0 K1 K2 K3) (k0_pay13 q K0 K1 K2 K3) V0 V1 V2 V3 Wv bv Wo bo (ix2 r d)
    = lin (lin (gather (row8 q r) (slab K0 r) (slab K1 r) (slab K2 r) (slab K3 r) (slab V0 r) (slab V1 r) (slab V2 r) (slab V3 r)
        (M4 q K0 K1 K2 K3 r)) (mat Wv) (row1 bv)) (mat Wo) (row1 bo) d := by
  pointwise [k0_pay14]
  simp only [pay8_apply, pay9_apply, pay10_apply, pay11_apply, pay12_apply, pay13_apply]
  rfl

end weights

/-- The closing layer norm of the attention output. -/
theorem pay1_apply (o : FVec Ideal S8x256 .f32) (g b : Vec Ideal S1x256 .f32) (r : Fin 8) (d : Fin 256) :
    k0_pay1 o g b (ix2 r d) = norm (row8 o r) (row1 g) (row1 b) d := by
  pointwise [k0_pay1]
  rfl

/-- The block stored at a grid point, at row `r` and lane `d`. -/
theorem out_apply (K0 K1 K2 K3 V0 V1 V2 V3 : Vec Ideal S8x256x256 .f32) (x : Vec Ideal S8x256 .f32)
    (Wq Wk Wv Wo : Vec Ideal S256x256 .f32) (bq bv bo g_q b_qn g_o b_on : Vec Ideal S1x256 .f32) (r : Fin 8) (d : Fin 256) :
    out0_20 K0 K1 K2 K3 V0 V1 V2 V3 x Wq Wk Wv Wo bq bv bo g_q b_qn g_o b_on (ix2 r d)
    = kernelRow (row8 x r) (row1 g_q) (row1 b_qn) (row1 g_o) (row1 b_on) (row1 bq) (row1 bv) (row1 bo)
        (mat Wq) (mat Wk) (mat Wv) (mat Wo) (slab K0 r) (slab K1 r) (slab K2 r) (slab K3 r)
        (slab V0 r) (slab V1 r) (slab V2 r) (slab V3 r) d := by
  unfold_out out0_20
  frame_out
  rw [pay1_apply]
  rw [show row8 (k0_pay14 _ _ _ _ _ _ V0 V1 V2 V3 Wv bv Wo bo) r = _ from funext fun k => pay14_apply _ K0 K1 K2 K3 r V0 V1 V2 V3 Wv bv Wo bo k]
  unfold M4
  rw [show row8 (k0_pay2 x g_q b_qn Wq bq Wk) r = _ from funext fun k => pay2_apply x g_q b_qn Wq bq Wk r k]
  rfl

end Cert.KernelIdeal.Block

end
-- ==== Proof.KernelArray.lean ====
/- The kernel's result array after the run, at every index, as `Row.kernelRow` of the argument arrays' rows; and the run
   with that array and every argument as it was. -/
module

public import proofs.«01_k».proof.Proof.Block
public import Idealize.ShloMosaic.Lib.Claim

@[expose] public section

set_option maxRecDepth 16384

noncomputable section

namespace Cert.KernelIdeal.Array

open Idealize.ShloMosaic Idealize.ShloMosaic.TcCoe Idealize.SL.Sem
open Idealize.ShloMosaic.Pipeline (Dat)
open Cert.KernelIdeal Cert.KernelIdeal.Gen Cert.KernelIdeal.Block Cert.Row

/-- A vector argument by its coordinate. -/
abbrev vec (v : Vec Ideal S256 .f32) : Fin 256 → EReal := fun k => v (ix1 k)
/-- Batch row `b` of the query argument. -/
abbrev rowQ (v : Vec Ideal S64x256 .f32) (b : Fin 64) : Fin 256 → EReal := fun k => v (ix2 b k)
/-- The slots of batch row `b` of the keys or the values argument. -/
abbrev rowK (v : Vec Ideal S64x1024x256 .f32) (b : Fin 64) : Fin 1024 → Fin 256 → EReal := fun t d => v (ix3 b t d)

/-- The kernel's result as a function of the argument arrays. -/
def result (keys values : Vec Ideal S64x1024x256 .f32) (query : Vec Ideal S64x256 .f32) (Wq : Vec Ideal S256x256 .f32)
    (bq : Vec Ideal S256 .f32) (Wk Wv : Vec Ideal S256x256 .f32) (bv : Vec Ideal S256 .f32) (Wo : Vec Ideal S256x256 .f32)
    (bo g_q b_qn g_o b_on : Vec Ideal S256 .f32) : Vec Ideal S64x256 .f32 := fun i =>
  kernelRow (rowQ query (i 0)) (vec g_q) (vec b_qn) (vec g_o) (vec b_on) (vec bq) (vec bv) (vec bo) (mat Wq) (mat Wk) (mat Wv) (mat Wo)
    (quarter 0 (by norm_num) (rowK keys (i 0))) (quarter 256 (by norm_num) (rowK keys (i 0)))
    (quarter 512 (by norm_num) (rowK keys (i 0))) (quarter 768 (by norm_num) (rowK keys (i 0)))
    (quarter 0 (by norm_num) (rowK values (i 0))) (quarter 256 (by norm_num) (rowK values (i 0)))
    (quarter 512 (by norm_num) (rowK values (i 0))) (quarter 768 (by norm_num) (rowK values (i 0))) (i 1)

variable (m : (ℓ : Loc nD τ sig) → Buf (Elt Ideal) ℓ) (ρ : Dev nD → PrngReg)

/-- The block indices of the windows that move with the grid point: the four splits of the keys, those of the values, the
    query and the result. -/
theorem idx : ∀ t : Fin cfg0.N, (win0_0.index t = ![t.val, 0, 0] ∧ win0_1.index t = ![t.val, 1, 0] ∧ win0_2.index t = ![t.val, 2, 0]
      ∧ win0_3.index t = ![t.val, 3, 0]) ∧ (win0_4.index t = ![t.val, 0, 0] ∧ win0_5.index t = ![t.val, 1, 0]
      ∧ win0_6.index t = ![t.val, 2, 0] ∧ win0_7.index t = ![t.val, 3, 0]) ∧ win0_8.index t = ![t.val, 0] ∧ win0_20.index t = ![t.val, 0] :=
  (by decide +kernel : ∀ t : Fin grid0.N, _)

/-- The block indices of the weights and of the one-row arrays: always the first block. -/
theorem idxW : ∀ t : Fin cfg0.N, win0_9.index t = ![0, 0] ∧ win0_10.index t = ![0, 0] ∧ win0_11.index t = ![0, 0]
      ∧ win0_12.index t = ![0, 0] ∧ win0_13.index t = ![0, 0] ∧ win0_14.index t = ![0, 0] ∧ win0_15.index t = ![0, 0]
      ∧ win0_16.index t = ![0, 0] ∧ win0_17.index t = ![0, 0] ∧ win0_18.index t = ![0, 0] ∧ win0_19.index t = ![0, 0] :=
  (by decide +kernel : ∀ t : Fin grid0.N, _)

/-- The grid has 8 points. -/
theorem lt8 (t : Fin cfg0.N) : t.val < 8 := by
  exact lt_of_lt_of_eq t.isLt (show cfg0.N = 8 from N_0)

/-- The batch row that row `r` of grid point `t`'s blocks is. -/
def brow (t : Fin cfg0.N) (r : Fin 8) : Fin 64 := ⟨t.val * 8 + r.val, by have := lt8 t; have := r.isLt; omega⟩

/-- The query block's rows. -/
theorem blk_query (c : Dev nD) (t : Fin cfg0.N) (r : Fin 8) :
    row8 (iblk m c 8 t) r = rowQ (m ((c : Thread nD τ).loc main_arg2)) (brow t r) := by
  funext k
  show iblk m c 8 t (ix2 r k) = m ((c : Thread nD τ).loc main_arg2) (ix2 (brow t r) k)
  blk_ext! [iblk, V, idx t, brow]

/-- The four splits of the keys block. -/
theorem blk_keys (c : Dev nD) (t : Fin cfg0.N) (r : Fin 8) :
    slab (iblk m c 0 t) r = quarter 0 (by norm_num) (rowK (m ((c : Thread nD τ).loc main_arg0)) (brow t r))
    ∧ slab (iblk m c 1 t) r = quarter 256 (by norm_num) (rowK (m ((c : Thread nD τ).loc main_arg0)) (brow t r))
    ∧ slab (iblk m c 2 t) r = quarter 512 (by norm_num) (rowK (m ((c : Thread nD τ).loc main_arg0)) (brow t r))
    ∧ slab (iblk m c 3 t) r = quarter 768 (by norm_num) (rowK (m ((c : Thread nD τ).loc main_arg0)) (brow t r)) := by
  refine ⟨?_, ?_, ?_, ?_⟩ <;> (funext x d; unfold slab quarter rowK; blk_ext! [iblk, V, idx t, brow])

/-- The four splits of the values block. -/
theorem blk_values (c : Dev nD) (t : Fin cfg0.N) (r : Fin 8) :
    slab (iblk m c 4 t) r = quarter 0 (by norm_num) (rowK (m ((c : Thread nD τ).loc main_arg1)) (brow t r))
    ∧ slab (iblk m c 5 t) r = quarter 256 (by norm_num) (rowK (m ((c : Thread nD τ).loc main_arg1)) (brow t r))
    ∧ slab (iblk m c 6 t) r = quarter 512 (by norm_num) (rowK (m ((c : Thread nD τ).loc main_arg1)) (brow t r))
    ∧ slab (iblk m c 7 t) r = quarter 768 (by norm_num) (rowK (m ((c : Thread nD τ).loc main_arg1)) (brow t r)) := by
  refine ⟨?_, ?_, ?_, ?_⟩ <;> (funext x d; unfold slab quarter rowK; blk_ext! [iblk, V, idx t, brow])

/-- The weight blocks are the weights. -/
theorem blk_weights (c : Dev nD) (t : Fin cfg0.N) :
    mat (iblk m c 9 t) = mat (m ((c : Thread nD τ).loc main_arg3)) ∧ mat (iblk m c 10 t) = mat (m ((c : Thread nD τ).loc main_arg5))
    ∧ mat (iblk m c 11 t) = mat (m ((c : Thread nD τ).loc main_arg7)) ∧ mat (iblk m c 12 t) = mat (m ((c : Thread nD τ).loc main_arg9)) := by
  refine ⟨?_, ?_, ?_, ?_⟩ <;> (funext j k; unfold mat; blk_ext! [iblk, V, idxW t])

set_option maxHeartbeats 1000000 in
/-- The one-row blocks are the vector arguments. -/
theorem blk_vecs (c : Dev nD) (t : Fin cfg0.N) :
    row1 (iblk m c 13 t) = vec (m ((c : Thread nD τ).loc main_arg4)) ∧ row1 (iblk m c 14 t) = vec (m ((c : Thread nD τ).loc main_arg8))
    ∧ row1 (iblk m c 15 t) = vec (m ((c : Thread nD τ).loc main_arg10)) ∧ row1 (iblk m c 16 t) = vec (m ((c : Thread nD τ).loc main_arg11))
    ∧ row1 (iblk m c 17 t) = vec (m ((c : Thread nD τ).loc main_arg12)) ∧ row1 (iblk m c 18 t) = vec (m ((c : Thread nD τ).loc main_arg13))
    ∧ row1 (iblk m c 19 t) = vec (m ((c : Thread nD τ).loc main_arg14)) := by
  refine ⟨?_, ?_, ?_, ?_, ?_, ?_, ?_⟩ <;> (funext k; unfold row1 vec; blk_ext! [iblk, V, idxW t])

/-- The kernel's result as a function of device `c`'s arguments. -/
abbrev resultOf (c : Dev nD) : Vec Ideal S64x256 .f32 :=
  result (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))

/-- What grid point `t` writes at row `r` and lane `d` is the result at the batch row it stands for. -/
theorem point (c : Dev nD) (t : Fin cfg0.N) (r : Fin 8) (d : Fin 256) :
    out0_20 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t)
      (iblk m c 14 t) (iblk m c 15 t) (iblk m c 16 t) (iblk m c 17 t) (iblk m c 18 t) (iblk m c 19 t) (ix2 r d)
    = resultOf m c (ix2 (brow t r) d) := by
  obtain ⟨k0, k1, k2, k3⟩ := blk_keys m c t r
  obtain ⟨v0, v1, v2, v3⟩ := blk_values m c t r
  obtain ⟨w0, w1, w2, w3⟩ := blk_weights m c t
  obtain ⟨b0, b1, b2, b3, b4, b5, b6⟩ := blk_vecs m c t
  rw [out_apply, blk_query, k0, k1, k2, k3, v0, v1, v2, v3, w0, w1, w2, w3, b0, b1, b2, b3, b4, b5, b6]
  rfl

/-- The result array after the run. -/
theorem final (c : Dev nD) : (dats m 0 c).arrAt 20 cfg0.N = resultOf m c := by
  refine (dats m 0 c).arrAt_eq_of_covers 20 _ (by decide +kernel) fun t hf y => ?_
  blk_simp
  rw [after0_20, show (win0_20.blk t).view.emb y = ix2 (brow t (y 0)) (y 1) by blk_ext [idx t, brow]]
  exact (congrArg _ (eq_ix2 (n0 := 8) (n1 := 256) y)).trans (point m c t (y 0) (y 1))

end Cert.KernelIdeal.Array

end
-- ==== Proof.Slots.lean ====
/- The reference's ring buffer after its writes: the index words it writes at, and its three scatters (keys, values and the
   mask of the written slots) read at an element. -/
module

public import proofs.«01_k».proof.Proof.Gen.ReferenceIdeal.Run
public import Idealize.ShloMosaic.Lib.Pointwise
public import Idealize.ShloMosaic.Lib.Tactic.CleanTypes
public import Idealize.ShloMosaic.Lib.Routing.OpsSet

@[expose] public section

set_option maxRecDepth 16384

noncomputable section

namespace Cert.ReferenceIdeal.Slots

open Idealize.ShloMosaic Cert.ReferenceIdeal Cert.ReferenceIdeal.Gen Cert.ReferenceIdeal.Value

variable (V0 : Valuation τ sig (Elt Ideal))

/-- The index words of the three scatters: one for each of the 1024 entries written. -/
def words : IVec S1024x1 32 :=
  broadcastInDim S1024x1 ![0] bcast_S1024_S1024x1_0
    (select (cmpi .slt (res_main_v1 V0) (broadcastInDim S1024 ![] bcast_S_S1024 (constantI S_ 32 0#32)))
      (addi (res_main_v1 V0) (broadcastInDim S1024 ![] bcast_S_S1024 (constantI S_ 32 2048#32))) (res_main_v1 V0))

/-- The composed term of the index words is `words`. -/
theorem words_def : broadcastInDim S1024x1 ![0] bcast_S1024_S1024x1_0
    (select (cmpi .slt (res_main_v1 V0) (broadcastInDim S1024 ![] bcast_S_S1024 (constantI S_ 32 0#32)))
      (addi (res_main_v1 V0) (broadcastInDim S1024 ![] bcast_S_S1024 (constantI S_ 32 2048#32))) (res_main_v1 V0)) = words V0 := rfl

/-- Entry `t` is written at slot `t`: its position is below the buffer's 2048 slots, so the remainder and the wrap leave
    it. -/
theorem words_apply (t : Fin 1024) : words V0 (ix2 t 0) = BitVec.ofNat 32 t := by
  unfold words res_main_v1 res_main_call0_v4 res_main_call0_v2 res_main_call0_v0
  clean_types
  pointwise
  simp only [id, constantI]
  revert t
  decide +kernel

/-- The index word of entry `t`, read signed. -/
theorem words_toInt (t : Fin 1024) : (words V0 (ix2 t 0)).toInt = ((t : ℕ) : ℤ) := by
  rw [words_apply]
  revert t
  decide +kernel

/-- An entry of the keys or the values lands at the slot of its position, in its own batch row and lane. -/
theorem lands3 (idx : IVec S1024x1 32) (hidx : ∀ t : Fin 1024, (idx (ix2 t 0)).toInt = ((t : ℕ) : ℤ))
    (b' : Fin 64) (t : Fin 1024) (d' : Fin 256) (b : Fin 64) (s : Fin 2048) (d : Fin 256) :
    scatter_S64x2048x256_S1024x1_S64x1024x256_02_1_1_1.resultIdx? (ix3 b' t d') idx = some (ix3 b s d)
      ↔ b' = b ∧ (t : ℕ) = s ∧ d' = d := by
  have hs1 : scatter_S64x2048x256_S1024x1_S64x1024x256_02_1_1_1.start (ix3 b' t d') idx 1 = ((t : ℕ) : ℤ) := by
    rw [← hidx t]
    unfold ScatterDims.start
    rw [dif_pos (by decide)]
    refine congrArg (fun i => (idx i).toInt) (funext fun a => ?_)
    fin_cases a <;> rfl
  have hs0 : scatter_S64x2048x256_S1024x1_S64x1024x256_02_1_1_1.start (ix3 b' t d') idx 0 = 0 := dif_neg (by decide)
  have hs2 : scatter_S64x2048x256_S1024x1_S64x1024x256_02_1_1_1.start (ix3 b' t d') idx 2 = 0 := dif_neg (by decide)
  have hw0 : scatter_S64x2048x256_S1024x1_S64x1024x256_02_1_1_1.window (ix3 b' t d') 0 = b' := rfl
  have hw1 : scatter_S64x2048x256_S1024x1_S64x1024x256_02_1_1_1.window (ix3 b' t d') 1 = 0 := rfl
  have hw2 : scatter_S64x2048x256_S1024x1_S64x1024x256_02_1_1_1.window (ix3 b' t d') 2 = d' := rfl
  rw [Routing.resultIdx?_eq_some]
  constructor
  · intro h
    have e0 : _ = ((b : ℕ) : ℤ) := h 0
    have e1 : _ = ((s : ℕ) : ℤ) := h 1
    have e2 : _ = ((d : ℕ) : ℤ) := h 2
    rw [hs0, hw0] at e0
    rw [hs1, hw1] at e1
    rw [hs2, hw2] at e2
    exact ⟨Fin.ext (by omega), by omega, Fin.ext (by omega)⟩
  · rintro ⟨rfl, h, rfl⟩ a
    match a with
    | ⟨0, _⟩ => exact (congrArg₂ (fun x (y : ℕ) => x + (y : ℤ)) hs0 hw0).trans (zero_add _)
    | ⟨1, _⟩ => exact ((congrArg₂ (fun x (y : ℕ) => x + (y : ℤ)) hs1 hw1).trans (add_zero _)).trans (congrArg Nat.cast h)
    | ⟨2, _⟩ => exact (congrArg₂ (fun x (y : ℕ) => x + (y : ℤ)) hs2 hw2).trans (zero_add _)

/-- An entry of the mask lands at the slot of its position, in its own batch row. -/
theorem lands2 (idx : IVec S1024x1 32) (hidx : ∀ t : Fin 1024, (idx (ix2 t 0)).toInt = ((t : ℕ) : ℤ))
    (b' : Fin 64) (t : Fin 1024) (b : Fin 64) (s : Fin 2048) :
    scatter_S64x2048_S1024x1_S64x1024_0_1_1_1.resultIdx? (ix2 b' t) idx = some (ix2 b s) ↔ b' = b ∧ (t : ℕ) = s := by
  have hs1 : scatter_S64x2048_S1024x1_S64x1024_0_1_1_1.start (ix2 b' t) idx 1 = ((t : ℕ) : ℤ) := by
    rw [← hidx t]
    unfold ScatterDims.start
    rw [dif_pos (by decide)]
    refine congrArg (fun i => (idx i).toInt) (funext fun a => ?_)
    fin_cases a <;> rfl
  have hs0 : scatter_S64x2048_S1024x1_S64x1024_0_1_1_1.start (ix2 b' t) idx 0 = 0 := dif_neg (by decide)
  have hw0 : scatter_S64x2048_S1024x1_S64x1024_0_1_1_1.window (ix2 b' t) 0 = b' := rfl
  have hw1 : scatter_S64x2048_S1024x1_S64x1024_0_1_1_1.window (ix2 b' t) 1 = 0 := rfl
  rw [Routing.resultIdx?_eq_some]
  constructor
  · intro h
    have e0 : _ = ((b : ℕ) : ℤ) := h 0
    have e1 : _ = ((s : ℕ) : ℤ) := h 1
    rw [hs0, hw0] at e0
    rw [hs1, hw1] at e1
    exact ⟨Fin.ext (by omega), by omega⟩
  · rintro ⟨rfl, h⟩ a
    match a with
    | ⟨0, _⟩ => exact (congrArg₂ (fun x (y : ℕ) => x + (y : ℤ)) hs0 hw0).trans (zero_add _)
    | ⟨1, _⟩ => exact ((congrArg₂ (fun x (y : ℕ) => x + (y : ℤ)) hs1 hw1).trans (add_zero _)).trans (congrArg Nat.cast h)

/-- The buffer after the writes, from zeros: slot `s` holds entry `s` of the written array where `s < 1024`, and zero above. -/
def written (x : Vec Ideal S64x1024x256 .f32) : Vec Ideal S64x2048x256 .f32 :=
  Host.scatter scatter_S64x2048x256_S1024x1_S64x1024x256_02_1_1_1 (fun _ b => b)
    (broadcastInDim S64x2048x256 ![] bcast_S_S64x2048x256 (constant (F := Ideal) S_ .f32 0x00000000#32)) (words V0) x

/-- `written` at an element. -/
theorem written_apply (x : Vec Ideal S64x1024x256 .f32) (b : Fin 64) (s : Fin 2048) (d : Fin 256) :
    written V0 x (ix3 b s d) = if h : (s : ℕ) < 1024 then x (ix3 b ⟨s, h⟩ d) else 0 := by
  unfold written
  have lands := lands3 (words V0) (words_toInt V0)
  split_ifs with h
  · refine Routing.scatter_set_hit _ _ _ _ _ _ (fun k hk => ?_) (ix3 b ⟨s, h⟩ d) ((lands ..).2 ⟨rfl, rfl, rfl⟩)
    rw [eq_ix3 k] at hk ⊢
    obtain ⟨h0, h1, h2⟩ := (lands ..).1 hk
    exact congrArg x (by rw [h0, h2]; exact congrArg (fun t => ix3 b t d) (Fin.ext h1))
  · rw [Routing.scatter_set_miss]
    · pointwise
    · intro k hk
      rw [eq_ix3 k] at hk
      have := (k 1).isLt
      exact h (((lands ..).1 hk).2.1 ▸ (k 1).isLt)

/-- The mask after its writes, from all false. -/
def mask : IVec S64x2048 1 :=
  Host.scatter scatter_S64x2048_S1024x1_S64x1024_0_1_1_1 (fun _ b => b)
    (broadcastInDim S64x2048 ![] bcast_S_S64x2048 (constantI S_ 1 0#1)) (words V0)
    (broadcastInDim S64x1024 ![] bcast_S_S64x1024 (constantI S_ 1 1#1))

/-- The mask is set exactly at the slots below 1024. -/
theorem mask_apply (b : Fin 64) (s : Fin 2048) : mask V0 (ix2 b s) = if (s : ℕ) < 1024 then 1#1 else 0#1 := by
  unfold mask
  have lands := lands2 (words V0) (words_toInt V0)
  split_ifs with h
  · refine Routing.scatter_set_hit _ _ _ _ _ _ (fun k hk => ?_) (ix2 b ⟨s, h⟩) ((lands ..).2 ⟨rfl, rfl⟩)
    pointwise
  · rw [Routing.scatter_set_miss]
    · pointwise
    · intro k hk
      rw [eq_ix2 k] at hk
      exact h (((lands ..).1 hk).2 ▸ (k 1).isLt)

end Cert.ReferenceIdeal.Slots

end
-- ==== Proof.Reference.lean ====
/- The reference's result, at every index, as `Row.refRow` of the argument arrays' rows. -/
module

public import proofs.«01_k».proof.Proof.Row
public import proofs.«01_k».proof.Proof.Slots

@[expose] public section

set_option maxRecDepth 16384

noncomputable section

namespace Cert.ReferenceIdeal.Ref

open Idealize.ShloMosaic Cert.ReferenceIdeal Cert.ReferenceIdeal.Gen Cert.ReferenceIdeal.Value Cert.ReferenceIdeal.Slots Cert.Row

/-- A vector argument by its coordinate. -/
abbrev vec (v : Vec Ideal S256 .f32) : Fin 256 → EReal := fun k => v (ix1 k)
/-- A weight matrix by its two coordinates. -/
abbrev mat (v : Vec Ideal S256x256 .f32) : Fin 256 → Fin 256 → EReal := fun j k => v (ix2 j k)
/-- Batch row `b` of the query argument, or of an array of its shape. -/
abbrev rowQ (v : Vec Ideal S64x256 .f32) (b : Fin 64) : Fin 256 → EReal := fun k => v (ix2 b k)
/-- The entries of batch row `b` of the keys or the values argument. -/
abbrev rowK (v : Vec Ideal S64x1024x256 .f32) (b : Fin 64) : Fin 1024 → Fin 256 → EReal := fun t d => v (ix3 b t d)

/-! ## The reference's stages, as operations on whole arrays -/

/-- The layer norm of the reference: over the square root of the variance, the variance's divisor printed as `256 - 0`
    and the quotient taken where that divisor is positive. -/
def lnorm (x : FVec Ideal S64x256 .f32) (g b : FVec Ideal S256 .f32) : FVec Ideal S64x256 .f32 :=
  let n : FVec Ideal S_ .f32 := subf (constant S_ .f32 0x43800000#32) (sitofp .f32 (constantI S_ 32 0#32))
  let μ : FVec Ideal S64x256 .f32 := broadcastInDim S64x256 ![0, 1] bcast_S64x1_S64x256_0_1 (Host.divf (broadcastInDim S64x1 ![0] bcast_S64_S64x1_0
    (Host.reduceAdd x (constant S_ .f32 0x00000000#32) reducesTo_S64x256_S64_d1 h_S_)) (broadcastInDim S64x1 ![] bcast_S_S64x1 (constant S_ .f32 0x43800000#32)))
  let v : FVec Ideal S64x1 .f32 := select (broadcastInDim S64x1 ![] bcast_S_S64x1 (cmpf .ogt n (constant S_ .f32 0x00000000#32)))
    (Host.divf (broadcastInDim S64x1 ![0] bcast_S64_S64x1_0 (Host.reduceAdd (mulf (subf x μ) (subf x μ)) (constant S_ .f32 0x00000000#32)
      reducesTo_S64x256_S64_d1 h_S_)) (broadcastInDim S64x1 ![] bcast_S_S64x1 n))
    (broadcastInDim S64x1 ![] bcast_S_S64x1 (id (constant S_ .f32 0x7FC00000#32)))
  addf (mulf (Host.divf (subf x μ) (broadcastInDim S64x256 ![0, 1] bcast_S64x1_S64x256_0_1
      (Host.sqrt (addf v (broadcastInDim S64x1 ![] bcast_S_S64x1 (constant S_ .f32 0x3727C5AC#32))))))
    (broadcastInDim S64x256 ![0, 1] bcast_S1x256_S64x256_0_1 (broadcastInDim S1x256 ![1] bcast_S256_S1x256_1 g)))
    (broadcastInDim S64x256 ![0, 1] bcast_S1x256_S64x256_0_1 (broadcastInDim S1x256 ![1] bcast_S256_S1x256_1 b))

/-- A projection of the batch rows: times the transposed weight, plus the bias. -/
def project (x : FVec Ideal S64x256 .f32) (W : FVec Ideal S256x256 .f32) (b : FVec Ideal S256 .f32) : FVec Ideal S64x256 .f32 :=
  addf (Host.dotGeneral dot_S64x256_S256x256_S64x256_1_0_0_1_n_n none x (transpose S256x256 [1, 0] W transposes_S256x256_S256x256_1_0))
    (broadcastInDim S64x256 ![0, 1] bcast_S1x256_S64x256_0_1 (broadcastInDim S1x256 ![1] bcast_S256_S1x256_1 b))

/-- A projection of the buffer's slots. -/
def projectSlots (x : FVec Ideal S64x2048x256 .f32) (W : FVec Ideal S256x256 .f32) (b : FVec Ideal S256 .f32) : FVec Ideal S64x2048x256 .f32 :=
  addf (Host.dotGeneral dot_S64x2048x256_S256x256_S64x2048x256_2_0_01_1_n_n none x (transpose S256x256 [1, 0] W transposes_S256x256_S256x256_1_0))
    (broadcastInDim S64x2048x256 ![0, 1, 2] bcast_S1x1x256_S64x2048x256_0_1_2 (broadcastInDim S1x1x256 ![2] bcast_S256_S1x1x256_2 b))

/-- The scores of the query against the slots over 16, and the mask applied. -/
def scores (mk : IVec S64x2048 1) (q : FVec Ideal S64x256 .f32) (k : FVec Ideal S64x2048x256 .f32) : FVec Ideal S64x1x2048 .f32 :=
  select (broadcastInDim S64x1x2048 ![0, 2] bcast_S64x2048_S64x1x2048_0_2 mk)
    (Host.divf (Host.dotGeneral dot_S64x1x256_S64x256x2048_S64x1x2048_2_1_1_2_0_0 none (broadcastInDim S64x1x256 ![0, 2] bcast_S64x256_S64x1x256_0_2 q)
        (transpose S64x256x2048 [0, 2, 1] k transposes_S64x2048x256_S64x256x2048_0_2_1))
      (broadcastInDim S64x1x2048 ![] bcast_S_S64x1x2048 (constant S_ .f32 0x41800000#32)))
    (broadcastInDim S64x1x2048 ![] bcast_S_S64x1x2048 (id (constant S_ .f32 0xFF800000#32)))

/-- The exponentials of the scores less their maximum. -/
def weights (s : FVec Ideal S64x1x2048 .f32) : FVec Ideal S64x1x2048 .f32 :=
  Host.exp (subf s (broadcastInDim S64x1x2048 ![0, 1, 2] bcast_S64x1x1_S64x1x2048_0_1_2 (broadcastInDim S64x1x1 ![0, 1] bcast_S64x1_S64x1x1_0_1
    (maximumf (broadcastInDim S64x1 ![] bcast_S_S64x1 (constant S_ .f32 0xFF800000#32))
      (Host.reduce FloatOps.maximumf s (constant S_ .f32 0xFF800000#32) reducesTo_S64x1x2048_S64x1_d2 h_S_)))))

/-- The values weighted by the exponentials over their sum. -/
def retrieve (e : FVec Ideal S64x1x2048 .f32) (v : FVec Ideal S64x2048x256 .f32) : FVec Ideal S64x256 .f32 :=
  shapeCast _ (Host.dotGeneral dot_S64x1x2048_S64x2048x256_S64x1x256_2_1_1_2_0_0 none
    (Host.divf e (broadcastInDim S64x1x2048 ![0, 1, 2] bcast_S64x1x1_S64x1x2048_0_1_2 (broadcastInDim S64x1x1 ![0, 1] bcast_S64x1_S64x1x1_0_1
      (Host.reduceAdd e (constant S_ .f32 0x00000000#32) reducesTo_S64x1x2048_S64x1_d2 h_S_)))) v) shapeCasts_S64x1x256_S64x256

/-! ## The stages at an index -/

/-- The literal 256 less the converted integer 0 is 256. -/
theorem divisor_eq : Ideal.ofBits .f32 0x43800000#32 - FloatOps.sitofp (F := Ideal) .f32 (0#32) = c256 := by
  show c256 - ((((0#32 : BitVec 32).toInt : ℤ) : ℝ) : EReal) = c256
  simp

/-- 256 is positive. -/
theorem c256_pos : 0 < c256 := by
  rw [c256_eq]
  exact_mod_cast (by norm_num : (0 : ℝ) < 256)

/-- The layer norm at an index. -/
theorem lnorm_apply (x : FVec Ideal S64x256 .f32) (g b : FVec Ideal S256 .f32) (r : Fin 64) (d : Fin 256) :
    lnorm x g b (ix2 r d) = normRef (rowQ x r) (vec g) (vec b) d := by
  pointwise [lnorm]
  rw [divisor_eq, if_pos c256_pos]
  rfl

/-- The projection of the batch rows at an index. -/
theorem project_apply (x : FVec Ideal S64x256 .f32) (W : FVec Ideal S256x256 .f32) (b : FVec Ideal S256 .f32) (r : Fin 64) (j : Fin 256) :
    project x W b (ix2 r j) = lin (rowQ x r) (mat W) (vec b) j := by
  pointwise [project]
  rfl

/-- The projection of the slots at an index. -/
theorem projectSlots_apply (x : FVec Ideal S64x2048x256 .f32) (W : FVec Ideal S256x256 .f32) (b : FVec Ideal S256 .f32)
    (r : Fin 64) (m : Fin 2048) (j : Fin 256) :
    projectSlots x W b (ix3 r m j) = lin (fun d => x (ix3 r m d)) (mat W) (vec b) j := by
  pointwise [projectSlots]
  rfl

/-- The masked scores at an index. -/
theorem scores_apply (mk : IVec S64x2048 1) (q : FVec Ideal S64x256 .f32) (k : FVec Ideal S64x2048x256 .f32) (r : Fin 64) (m : Fin 2048) :
    scores mk q k (ix3 r 0 m) = Scalar.select (mk (ix2 r m)) (Ideal.div (∑ j, q (ix2 r j) * k (ix3 r m j)) c16)
      (Ideal.ofBits .f32 0xFF800000#32) := by
  pointwise [scores]
  rfl

/-- The exponentials at an index. -/
theorem weights_apply (s : FVec Ideal S64x1x2048 .f32) (r : Fin 64) (m : Fin 2048) :
    weights s (ix3 r 0 m) = Ideal.exp (s (ix3 r 0 m) - slotTop fun n => s (ix3 r 0 n)) := by
  pointwise [weights]
  rfl

/-- The weighted values at an index. -/
theorem retrieve_apply (e : FVec Ideal S64x1x2048 .f32) (v : FVec Ideal S64x2048x256 .f32) (r : Fin 64) (j : Fin 256) :
    retrieve e v (ix2 r j) = ∑ m, Ideal.div (e (ix3 r 0 m)) (∑ n, e (ix3 r 0 n)) * v (ix3 r m j) := by
  pointwise [retrieve]

/-! ## The run's terms are those stages -/

section run

variable (V0 : Valuation τ sig (Elt Ideal))

/-- Batch row `b` of the written buffer is its 1024 entries followed by zeros. -/
theorem written_row (x : Vec Ideal S64x1024x256 .f32) (b : Fin 64) (m : Fin 2048) :
    (fun d => written V0 x (ix3 b m d)) = slots (rowK x b) m :=
  funext fun d => written_apply V0 x b m d

/-- The masked scores of the run. -/
theorem v66_eq : res_main_v66 V0 = scores (mask V0)
    (project (lnorm (V0 (Proc.devRef .tc main_arg2)) (V0 (Proc.devRef .tc main_arg11)) (V0 (Proc.devRef .tc main_arg12)))
      (V0 (Proc.devRef .tc main_arg3)) (V0 (Proc.devRef .tc main_arg4)))
    (projectSlots (written V0 (V0 (Proc.devRef .tc main_arg0))) (V0 (Proc.devRef .tc main_arg5)) (V0 (Proc.devRef .tc main_arg6))) := rfl

/-- The attention output of the run, before its layer norm. -/
theorem v84_eq : res_main_v84 V0 = project (retrieve (weights (res_main_v66 V0))
      (projectSlots (written V0 (V0 (Proc.devRef .tc main_arg1))) (V0 (Proc.devRef .tc main_arg7)) (V0 (Proc.devRef .tc main_arg8))))
    (V0 (Proc.devRef .tc main_arg9)) (V0 (Proc.devRef .tc main_arg10)) := rfl

/-- The reference's result as a function of the contents it starts from. -/
def resultOf : FVec Ideal S64x256 .f32 :=
  lnorm (res_main_v84 V0) (V0 (Proc.devRef .tc main_arg13)) (V0 (Proc.devRef .tc main_arg14))

/-- The scores of batch row `b`, slot by slot. -/
theorem v66_apply (b : Fin 64) (m : Fin 2048) :
    res_main_v66 V0 (ix3 b 0 m) = slotScore (lin (normRef (rowQ (V0 (Proc.devRef .tc main_arg2)) b) (vec (V0 (Proc.devRef .tc main_arg11)))
        (vec (V0 (Proc.devRef .tc main_arg12)))) (mat (V0 (Proc.devRef .tc main_arg3))) (vec (V0 (Proc.devRef .tc main_arg4))))
      (mat (V0 (Proc.devRef .tc main_arg5))) (vec (V0 (Proc.devRef .tc main_arg6))) (slots (rowK (V0 (Proc.devRef .tc main_arg0)) b)) m := by
  rw [v66_eq, scores_apply, mask_apply]
  simp only [projectSlots_apply, written_row, project_apply]
  rw [show rowQ (lnorm _ _ _) b = _ from funext fun d => lnorm_apply _ _ _ b d]
  unfold slotScore
  split_ifs with h <;> rfl

/-- The reference's result at batch row `b` and lane `d`. -/
theorem resultOf_apply (b : Fin 64) (d : Fin 256) :
    resultOf V0 (ix2 b d) = refRow (rowQ (V0 (Proc.devRef .tc main_arg2)) b) (vec (V0 (Proc.devRef .tc main_arg11))) (vec (V0 (Proc.devRef .tc main_arg12)))
      (vec (V0 (Proc.devRef .tc main_arg13))) (vec (V0 (Proc.devRef .tc main_arg14))) (vec (V0 (Proc.devRef .tc main_arg4)))
      (vec (V0 (Proc.devRef .tc main_arg6))) (vec (V0 (Proc.devRef .tc main_arg8))) (vec (V0 (Proc.devRef .tc main_arg10)))
      (mat (V0 (Proc.devRef .tc main_arg3))) (mat (V0 (Proc.devRef .tc main_arg5))) (mat (V0 (Proc.devRef .tc main_arg7)))
      (mat (V0 (Proc.devRef .tc main_arg9))) (slots (rowK (V0 (Proc.devRef .tc main_arg0)) b)) (slots (rowK (V0 (Proc.devRef .tc main_arg1)) b)) d := by
  unfold resultOf
  rw [lnorm_apply, v84_eq, show rowQ (project _ _ _) b = _ from funext fun j => project_apply _ _ _ b j,
    show rowQ (retrieve _ _) b = _ from funext fun j => retrieve_apply _ _ b j]
  simp only [projectSlots_apply, written_row, weights_apply, v66_apply]
  rfl

end run

end Cert.ReferenceIdeal.Ref

end
-- ==== Proof.Finite.lean ====
/- What the precondition says: every element of the nine argument arrays it reads is a real number. -/
module

public import proofs.«01_k».proof.Proof.Row
public import proofs.«01_k».proof.Proof.Gen.Pre_finite_inputs
public import Idealize.ShloMosaic.Lib.Pointwise
public import Idealize.ShloMosaic.Lib.ReduceAll

@[expose] public section

set_option maxRecDepth 16384

noncomputable section

namespace Cert.Pre_finite_inputs.Finite

open Idealize.ShloMosaic Cert.Pre_finite_inputs Cert.Pre_finite_inputs.Gen Cert.Row

instance : Subsingleton S_.Idx := ⟨fun a b => funext fun i => i.elim0⟩

/-- A number whose absolute value is below infinity is real. -/
theorem real_of_abs_lt (x : EReal) (h : max x (-x) < ⊤) : Fin' x := by
  induction x using EReal.rec with
  | bot => simp at h
  | coe r => exact ⟨r, rfl⟩
  | top => simp at h

/-- The infinity that the precondition compares with. -/
theorem inf_eq : Ideal.ofBits .f32 0x7F800000#32 = ⊤ := by
  simp [Ideal.ofBits, Ideal.ieee]

/-- One conjunct of the precondition, read: every element of the array is real. -/
theorem finite_of_all {s : Shape} {axes : List (Fin s.rank)} (x : FVec Ideal s .f32) (hb : S_.BroadcastsInDim s (![] : Fin 0 → Fin s.rank))
    (h : s.ReducesTo axes S_) (hu : 0 < S_.numel)
    (e : Host.reduce IntOp.andi (cmpf .olt (Host.absf x) (broadcastInDim s ![] hb (constant S_ .f32 0x7F800000#32))) (constantI S_ 1 1#1) h hu ix0 = 1#1)
    (i : s.Idx) : Fin' (x i) := by
  have e1 := Host.reduce_andi_all _ _ h hu ix0 e i
  apply real_of_abs_lt
  rw [← inf_eq]
  change Ideal.cmp .olt (max (x i) (-(x i))) (Ideal.ofBits .f32 0x7F800000#32) = 1#1 at e1
  by_contra hc
  simp [Ideal.cmp, hc] at e1

/-- The precondition, read: the keys, the values, the weights of the three projections in front of the softmax (query, key
    and value), the offsets of the query and key projections, and the scale and offset of the first layer normalization hold
    real numbers. -/
theorem finite (a0 a1 : FVec Ideal S64x1024x256 .f32) (a2 : FVec Ideal S64x256 .f32) (a3 : FVec Ideal S256x256 .f32) (a4 : FVec Ideal S256 .f32)
    (a5 : FVec Ideal S256x256 .f32) (a6 : FVec Ideal S256 .f32) (a7 : FVec Ideal S256x256 .f32) (a8 : FVec Ideal S256 .f32)
    (a9 : FVec Ideal S256x256 .f32) (a10 a11 a12 a13 a14 : FVec Ideal S256 .f32)
    (h : fn a0 a1 a2 a3 a4 a5 a6 a7 a8 a9 a10 a11 a12 a13 a14 = fun _ => 1#1) :
    (∀ i, Fin' (a0 i)) ∧ (∀ i, Fin' (a1 i)) ∧ (∀ i, Fin' (a3 i)) ∧ (∀ i, Fin' (a4 i)) ∧ (∀ i, Fin' (a5 i)) ∧ (∀ i, Fin' (a6 i))
      ∧ (∀ i, Fin' (a7 i)) ∧ (∀ i, Fin' (a11 i)) ∧ (∀ i, Fin' (a12 i)) := by
  have e := congrFun h ix0
  unfold fn fn_part1 fn_part2 at e
  obtain ⟨e, e12⟩ := IntOp.andi_eq_one.1 e
  obtain ⟨e, e11⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e1⟩ := IntOp.andi_eq_one.1 e
  obtain ⟨_, e0⟩ := IntOp.andi_eq_one.1 e
  exact ⟨finite_of_all _ _ _ _ e0, finite_of_all _ _ _ _ e1, finite_of_all _ _ _ _ e3, finite_of_all _ _ _ _ e4, finite_of_all _ _ _ _ e5,
    finite_of_all _ _ _ _ e6, finite_of_all _ _ _ _ e7, finite_of_all _ _ _ _ e11, finite_of_all _ _ _ _ e12⟩

end Cert.Pre_finite_inputs.Finite

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_inputs
public import proofs.«01_k».proof.Proof.KernelArray
public import proofs.«01_k».proof.Proof.Reference
public import proofs.«01_k».proof.Proof.Finite
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem
open Cert.ReferenceIdeal (S256 S64x256 S256x256 S64x1024x256)

/-- The kernel runs, leaves its arguments and every counter as they were. -/
theorem frame_p : Cert.quiescent_Kernel := fun m g _ => Cert.Kernel.Gen.frame m g

/-- The idealized kernel likewise. -/
theorem frame_pi : Cert.quiescent_KernelIdeal := fun m g _ => Cert.KernelIdeal.Gen.frame m g

/-- The idealized kernel likewise, on finite inputs. -/
theorem frame_pi_pre : Cert.quiescent_KernelIdeal_pre_finite_inputs := fun m g _ => Cert.KernelIdeal.Gen.frame m g

/-- The reference runs, leaves its arguments and every counter as they were. -/
theorem frame_ri : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The reference likewise, on finite inputs. -/
theorem frame_ri_pre : Cert.quiescent_ReferenceIdeal_pre_finite_inputs := fun m g _ => frame_ri m g trivial

/-- On finite inputs, the array the kernel leaves is the array the reference leaves. -/
theorem arrays_eq (a0 a1 : FVec Ideal S64x1024x256 .f32) (a2 : FVec Ideal S64x256 .f32) (a3 : FVec Ideal S256x256 .f32)
    (a4 : FVec Ideal S256 .f32) (a5 : FVec Ideal S256x256 .f32) (a6 : FVec Ideal S256 .f32) (a7 : FVec Ideal S256x256 .f32)
    (a8 : FVec Ideal S256 .f32) (a9 : FVec Ideal S256x256 .f32) (a10 a11 a12 a13 a14 : FVec Ideal S256 .f32)
    (V0 : Valuation Cert.ReferenceIdeal.τ Cert.ReferenceIdeal.sig (Elt Ideal))
    (h0 : V0 (Proc.devRef .tc Cert.ReferenceIdeal.main_arg0) = a0)
    (h1 : V0 (Proc.devRef .tc Cert.ReferenceIdeal.main_arg1) = a1)
    (h2 : V0 (Proc.devRef .tc Cert.ReferenceIdeal.main_arg2) = a2)
    (h3 : V0 (Proc.devRef .tc Cert.ReferenceIdeal.main_arg3) = a3)
    (h4 : V0 (Proc.devRef .tc Cert.ReferenceIdeal.main_arg4) = a4)
    (h5 : V0 (Proc.devRef .tc Cert.ReferenceIdeal.main_arg5) = a5)
    (h6 : V0 (Proc.devRef .tc Cert.ReferenceIdeal.main_arg6) = a6)
    (h7 : V0 (Proc.devRef .tc Cert.ReferenceIdeal.main_arg7) = a7)
    (h8 : V0 (Proc.devRef .tc Cert.ReferenceIdeal.main_arg8) = a8)
    (h9 : V0 (Proc.devRef .tc Cert.ReferenceIdeal.main_arg9) = a9)
    (h10 : V0 (Proc.devRef .tc Cert.ReferenceIdeal.main_arg10) = a10)
    (h11 : V0 (Proc.devRef .tc Cert.ReferenceIdeal.main_arg11) = a11)
    (h12 : V0 (Proc.devRef .tc Cert.ReferenceIdeal.main_arg12) = a12)
    (h13 : V0 (Proc.devRef .tc Cert.ReferenceIdeal.main_arg13) = a13)
    (h14 : V0 (Proc.devRef .tc Cert.ReferenceIdeal.main_arg14) = a14)
    (h : Cert.Pre_finite_inputs.fn a0 a1 a2 a3 a4 a5 a6 a7 a8 a9 a10 a11 a12 a13 a14 = fun _ => 1#1) :
    Cert.KernelIdeal.Array.result a0 a1 a2 a3 a4 a5 a7 a8 a9 a10 a11 a12 a13 a14 = Cert.ReferenceIdeal.Ref.resultOf V0 := by
  obtain ⟨f0, f1, f3, f4, f5, f6, f7, f11, f12⟩ := Cert.Pre_finite_inputs.Finite.finite a0 a1 a2 a3 a4 a5 a6 a7 a8 a9 a10 a11 a12 a13 a14 h
  funext i
  obtain ⟨b, d, rfl⟩ : ∃ (b : Fin 64) (d : Fin 256), i = ix2 b d := ⟨i 0, i 1, eq_ix2 i⟩
  rw [Cert.ReferenceIdeal.Ref.resultOf_apply, h0, h1, h2, h3, h4, h5, h6, h7, h8, h9, h10, h11, h12, h13, h14]
  exact congrFun (Cert.Row.kernelRow_eq _ _ _ _ _ _ _ _ _ _ _ _ _ _ _ (fun _ => f11 _) (fun _ => f12 _) (fun _ => f4 _) (fun _ => f6 _)
    (fun _ _ => f3 _) (fun _ _ => f5 _) (fun _ _ => f7 _) (fun _ _ => f0 _) (fun _ _ => f1 _)) d

/-- On finite inputs the idealized kernel computes what the reference computes. -/
theorem algebraic : Cert.algebraic_KernelIdeal_ReferenceIdeal_pre_finite_inputs := by
  intro m g m' g' hpre hag
  refine ⟨fun c => Cert.KernelIdeal.Array.resultOf m c, ?_, ?_⟩
  · exact (θ_run Cert.KernelIdeal.defs _ _).mono (fun r h c => ⟨((h.1 c).1 20).trans (Cert.KernelIdeal.Array.final m c), h.2.1 c⟩)
      (θ_run_and (Cert.KernelIdeal.Gen.run_main m g) (Cert.KernelIdeal.Gen.frame m g))
  · refine (θ_run Cert.ReferenceIdeal.defs _ _).mono (fun r h c => ⟨(h c).1.trans ?_, (h c).2⟩) (Cert.ReferenceIdeal.Value.run (F := Ideal) m' g')
    obtain ⟨h0, h1, h2, h3, h4, h5, h6, h7, h8, h9, h10, h11, h12, h13, h14⟩ := hag c
    exact (arrays_eq _ _ _ _ _ _ _ _ _ _ _ _ _ _ _ (StableHlo.launchContents m' c) h0 h1 h2 h3 h4 h5 h6 h7 h8 h9 h10 h11 h12 h13 h14 (hpre c)).symm

/-- Every claim. -/
theorem claim : Cert.Claim :=
  ⟨Cert.Kernel.Gen.facts, Cert.KernelIdeal.Gen.facts, Cert.ReferenceIdeal.Gen.facts, Cert.Pre_finite_inputs.Gen.facts,
    frame_p, frame_pi, frame_pi_pre, frame_ri, frame_ri_pre, trivial, algebraic⟩

end Cert.Proof

end
